-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal__finite [hPre__finite : Cert.Pre__finite.Facts] (m : (ℓ : Loc Cert.KernelIdeal.nD Cert.KernelIdeal.τ Cert.KernelIdeal.sig) → Buf (Elt Ideal) ℓ) : Prop :=
  ∀ c : Dev Cert.KernelIdeal.nD,
    (Cert.Pre__finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal__finite [hPre__finite : Cert.Pre__finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre__finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre__finite [hKernelIdeal : Cert.KernelIdeal.Facts] [hPre__finite : Cert.Pre__finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal__finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre__finite [hReferenceIdeal : Cert.ReferenceIdeal.Facts] [hPre__finite : Cert.Pre__finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal__finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pack.Statement Cert.KernelIdeal.S72x216
  ∧ IdealRules.bf16_pack.Statement Cert.KernelIdeal.S72x256

def algebraic_KernelIdeal_ReferenceIdeal_pre__finite [hKernelIdeal : Cert.KernelIdeal.Facts] [hReferenceIdeal : Cert.ReferenceIdeal.Facts] [hPre__finite : Cert.Pre__finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal__finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111_0) = v0 c
          ∧ r.2.mem ((c.tc : Thread Cert.ReferenceIdeal.nD Cert.ReferenceIdeal.τ).loc Cert.ReferenceIdeal.main_v111_1) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre__finite : Cert.Pre__finite.Facts),
    quiescent_Kernel (hKernel := hKernel)
    ∧ quiescent_KernelIdeal (hKernelIdeal := hKernelIdeal)
    ∧ quiescent_KernelIdeal_pre__finite (hKernelIdeal := hKernelIdeal) (hPre__finite := hPre__finite)
    ∧ quiescent_ReferenceIdeal (hReferenceIdeal := hReferenceIdeal)
    ∧ quiescent_ReferenceIdeal_pre__finite (hReferenceIdeal := hReferenceIdeal) (hPre__finite := hPre__finite)
    ∧ preserves_Kernel_KernelIdeal
    ∧ algebraic_KernelIdeal_ReferenceIdeal_pre__finite (hKernelIdeal := hKernelIdeal) (hReferenceIdeal := hReferenceIdeal) (hPre__finite := hPre__finite)
-- ==== Pre__finite.lean ====
abbrev S2x1024x9216 : Shape := ⟨3, ![2, 1024, 9216]⟩
abbrev S36x36 : Shape := ⟨2, ![36, 36]⟩
abbrev S9216x2304 : Shape := ⟨2, ![9216, 2304]⟩
abbrev S2304 : Shape := ⟨1, ![2304]⟩
abbrev S_ : Shape := ⟨0, ![]⟩

class Facts : Prop where
  bitsLt_bf16_f32 : FTy.bits .bf16 < FTy.bits .f32
  bcast_S_S2x1024x9216 : S_.BroadcastsInDim S2x1024x9216 (![] : Fin 0 → Fin S2x1024x9216.rank)
  reducesTo_S2x1024x9216_S_d0_1_2 : S2x1024x9216.ReducesTo [0, 1, 2] S_
  h_S_ : 0 < S_.numel
  bcast_S_S36x36 : S_.BroadcastsInDim S36x36 (![] : Fin 0 → Fin S36x36.rank)
  reducesTo_S36x36_S_d0_1 : S36x36.ReducesTo [0, 1] S_

variable [Facts]

def fn {F : FTy → Type} [FloatOps F] (main_arg0 : FVec F S2x1024x9216 .bf16) (main_arg1 : FVec F S36x36 .f32) (main_arg2 : FVec F S9216x2304 .fp8e4m3) (main_arg3 : FVec F S2304 .f32) : IVec S_ 1 :=
  let main_v0 : FVec F S2x1024x9216 .f32 := (extf .f32 · bitsLt_bf16_f32) main_arg0
  let main_v1 : FVec F S2x1024x9216 .f32 := Host.absf main_v0
  let main_cst : FVec F S_ .f32 := constant S_ .f32 0x7F7F0000#32
  let main_v2 : FVec F S2x1024x9216 .f32 := broadcastInDim S2x1024x9216 ![] bcast_S_S2x1024x9216 main_cst
  let main_v3 : IVec S2x1024x9216 1 := cmpf .ole main_v1 main_v2
  let main_c : IVec S_ 1 := constantI S_ 1 1#1
  let main_v4 : IVec S_ 1 := (fun x v => Host.reduce IntOp.andi x v reducesTo_S2x1024x9216_S_d0_1_2 h_S_) main_v3 main_c
  let main_v5 : FVec F S36x36 .f32 := Host.absf main_arg1
  let main_cst_0 : FVec F S_ .f32 := constant S_ .f32 0x3F800000#32
  let main_v6 : FVec F S36x36 .f32 := broadcastInDim S36x36 ![] bcast_S_S36x36 main_cst_0
  let main_v7 : IVec S36x36 1 := cmpf .ole main_v5 main_v6
  let main_c_1 : IVec S_ 1 := constantI S_ 1 1#1
  let main_v8 : IVec S_ 1 := (fun x v => Host.reduce IntOp.andi x v reducesTo_S36x36_S_d0_1 h_S_) main_v7 main_c_1
  let main_v9 : IVec S_ 1 := andi main_v4 main_v8
  main_v9
-- ==== Kernel.lean ====
abbrev S2x1024x9216 : Shape := ⟨3, ![2, 1024, 9216]⟩
abbrev S36x36 : Shape := ⟨2, ![36, 36]⟩
abbrev S9216x2304 : Shape := ⟨2, ![9216, 2304]⟩
abbrev S2304 : Shape := ⟨1, ![2304]⟩
abbrev S256x256 : Shape := ⟨2, ![256, 256]⟩
abbrev S2048x9216 : Shape := ⟨2, ![2048, 9216]⟩
abbrev S2x2 : Shape := ⟨2, ![2, 2]⟩
abbrev S_ : Shape := ⟨0, ![]⟩
abbrev S36x1x36x1 : Shape := ⟨4, ![36, 1, 36, 1]⟩
abbrev S1x2x1x2 : Shape := ⟨4, ![1, 2, 1, 2]⟩
abbrev S36x2x36x2 : Shape := ⟨4, ![36, 2, 36, 2]⟩
abbrev S72x72 : Shape := ⟨2, ![72, 72]⟩
abbrev S1x72x1x72 : Shape := ⟨4, ![1, 72, 1, 72]⟩
abbrev S1x72x3x72 : Shape := ⟨4, ![1, 72, 3, 72]⟩
abbrev S72x216 : Shape := ⟨2, ![72, 216]⟩
abbrev S1x2304 : Shape := ⟨2, ![1, 2304]⟩
abbrev S2048x2304 : Shape := ⟨2, ![2048, 2304]⟩
abbrev S2048x1 : Shape := ⟨2, ![2048, 1]⟩
abbrev S256x9216 : Shape := ⟨2, ![256, 9216]⟩
abbrev S256x2304 : Shape := ⟨2, ![256, 2304]⟩
abbrev S256x1 : Shape := ⟨2, ![256, 1]⟩
abbrev S8x288x128 : Shape := ⟨3, ![8, 288, 128]⟩
abbrev S32x256 : Shape := ⟨2, ![32, 256]⟩
abbrev S8x128 : Shape := ⟨2, ![8, 128]⟩
abbrev S1x8x128 : Shape := ⟨3, ![1, 8, 128]⟩
abbrev S1x288x128 : Shape := ⟨3, ![1, 288, 128]⟩
abbrev S288x128 : Shape := ⟨2, ![288, 128]⟩
abbrev S72x128 : Shape := ⟨2, ![72, 128]⟩
abbrev S72x256 : Shape := ⟨2, ![72, 256]⟩
abbrev S216x256 : Shape := ⟨2, ![216, 256]⟩
abbrev S8 : Shape := ⟨1, ![8]⟩
abbrev S8x1 : Shape := ⟨2, ![8, 1]⟩
abbrev S32x1 : Shape := ⟨2, ![32, 1]⟩
abbrev S32x128 : Shape := ⟨2, ![32, 128]⟩
abbrev S9216x256 : Shape := ⟨2, ![9216, 256]⟩
abbrev S1x256 : Shape := ⟨2, ![1, 256]⟩

abbrev nBuf : Space → Nat
  | .hbm => 26
  | .vmem => 14
  | .smem => 0
  | _ => 0

abbrev bufTy : (tb : Table) → Fin (tcTables nBuf tb) → BufTy
  | .hbm, ⟨0, _⟩ => ⟨S2x1024x9216, .bf16⟩
  | .hbm, ⟨1, _⟩ => ⟨S36x36, .f32⟩
  | .hbm, ⟨2, _⟩ => ⟨S9216x2304, .fp8e4m3⟩
  | .hbm, ⟨3, _⟩ => ⟨S2304, .f32⟩
  | .hbm, ⟨4, _⟩ => ⟨S256x256, .bf16⟩
  | .hbm, ⟨5, _⟩ => ⟨S2048x9216, .bf16⟩
  | .hbm, ⟨6, _⟩ => ⟨S2x2, .i32⟩
  | .hbm, ⟨7, _⟩ => ⟨S2x2, .i32⟩
  | .hbm, ⟨8, _⟩ => ⟨S_, .i32⟩
  | .hbm, ⟨9, _⟩ => ⟨S2x2, .i32⟩
  | .hbm, ⟨10, _⟩ => ⟨S2x2, .i32⟩
  | .hbm, ⟨11, _⟩ => ⟨S2x2, .i1⟩
  | .hbm, ⟨12, _⟩ => ⟨S2x2, .f32⟩
  | .hbm, ⟨13, _⟩ => ⟨S36x1x36x1, .f32⟩
  | .hbm, ⟨14, _⟩ => ⟨S1x2x1x2, .f32⟩
  | .hbm, ⟨15, _⟩ => ⟨S36x2x36x2, .f32⟩
  | .hbm, ⟨16, _⟩ => ⟨S36x2x36x2, .f32⟩
  | .hbm, ⟨17, _⟩ => ⟨S36x2x36x2, .f32⟩
  | .hbm, ⟨18, _⟩ => ⟨S72x72, .f32⟩
  | .hbm, ⟨19, _⟩ => ⟨S1x72x1x72, .f32⟩
  | .hbm, ⟨20, _⟩ => ⟨S1x72x3x72, .f32⟩
  | .hbm, ⟨21, _⟩ => ⟨S72x216, .f32⟩
  | .hbm, ⟨22, _⟩ => ⟨S1x2304, .f32⟩
  | .hbm, ⟨23, _⟩ => ⟨S2048x2304, .bf16⟩
  | .hbm, ⟨24, _⟩ => ⟨S2048x9216, .fp8e4m3⟩
  | .hbm, ⟨25, _⟩ => ⟨S2048x1, .f32⟩
  | .local _ .vmem, ⟨0, _⟩ => ⟨S256x9216, .bf16⟩
  | .local _ .vmem, ⟨1, _⟩ => ⟨S256x9216, .bf16⟩
  | .local _ .vmem, ⟨2, _⟩ => ⟨S72x216, .f32⟩
  | .local _ .vmem, ⟨3, _⟩ => ⟨S256x256, .bf16⟩
  | .local _ .vmem, ⟨4, _⟩ => ⟨S9216x2304, .fp8e4m3⟩
  | .local _ .vmem, ⟨5, _⟩ => ⟨S1x2304, .f32⟩
  | .local _ .vmem, ⟨6, _⟩ => ⟨S256x2304, .bf16⟩
  | .local _ .vmem, ⟨7, _⟩ => ⟨S256x2304, .bf16⟩
  | .local _ .vmem, ⟨8, _⟩ => ⟨S256x9216, .fp8e4m3⟩
  | .local _ .vmem, ⟨9, _⟩ => ⟨S256x9216, .fp8e4m3⟩
  | .local _ .vmem, ⟨10, _⟩ => ⟨S256x1, .f32⟩
  | .local _ .vmem, ⟨11, _⟩ => ⟨S256x1, .f32⟩
  | .local _ .vmem, ⟨12, _⟩ => ⟨S8x288x128, .f32⟩
  | .local _ .vmem, ⟨13, _⟩ => ⟨S8x288x128, .f32⟩
  | _, _ => ⟨S2x1024x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [BitOps F]

abbrev grid0 : Pipeline.Grid := ⟨1, ![8], ![false]⟩

@[reducible] def k0_t1_loop : Scf.Loop 32 :=
  let c0_i32 : BitVec 32 := 0#32
  let c8_i32 : BitVec 32 := 8#32
  let v15 : BitVec 32 := Scalar.addi c0_i32 c8_i32
  let c1_i32 : BitVec 32 := 1#32
  ⟨c0_i32, v15, c1_i32⟩
def k0_mult1 (k0_t1 : Fin k0_t1_loop.trips) : BitVec 32 :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  v21
def k0_off1 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v23 : Index := Scalar.indexCast v22
  let c0_10 : Index := 0#32
  ![v23.toNat, 0]
def k0_off2 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v60 : Index := Scalar.indexCast v22
  let c256 : Index := 256#32
  ![v60.toNat, 256]
def k0_off3 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v97 : Index := Scalar.indexCast v22
  let c512 : Index := 512#32
  ![v97.toNat, 512]
def k0_off4 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v134 : Index := Scalar.indexCast v22
  let c768 : Index := 768#32
  ![v134.toNat, 768]
def k0_off5 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v171 : Index := Scalar.indexCast v22
  let c1024 : Index := 1024#32
  ![v171.toNat, 1024]
def k0_off6 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v208 : Index := Scalar.indexCast v22
  let c1280 : Index := 1280#32
  ![v208.toNat, 1280]
def k0_off7 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v245 : Index := Scalar.indexCast v22
  let c1536 : Index := 1536#32
  ![v245.toNat, 1536]
def k0_off8 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v282 : Index := Scalar.indexCast v22
  let c1792 : Index := 1792#32
  ![v282.toNat, 1792]
def k0_off9 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v319 : Index := Scalar.indexCast v22
  let c2048 : Index := 2048#32
  ![v319.toNat, 2048]
def k0_off10 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v356 : Index := Scalar.indexCast v22
  let c2304 : Index := 2304#32
  ![v356.toNat, 2304]
def k0_off11 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v393 : Index := Scalar.indexCast v22
  let c2560 : Index := 2560#32
  ![v393.toNat, 2560]
def k0_off12 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v430 : Index := Scalar.indexCast v22
  let c2816 : Index := 2816#32
  ![v430.toNat, 2816]
def k0_off13 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v467 : Index := Scalar.indexCast v22
  let c3072 : Index := 3072#32
  ![v467.toNat, 3072]
def k0_off14 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v504 : Index := Scalar.indexCast v22
  let c3328 : Index := 3328#32
  ![v504.toNat, 3328]
def k0_off15 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v541 : Index := Scalar.indexCast v22
  let c3584 : Index := 3584#32
  ![v541.toNat, 3584]
def k0_off16 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v578 : Index := Scalar.indexCast v22
  let c3840 : Index := 3840#32
  ![v578.toNat, 3840]
def k0_off17 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v615 : Index := Scalar.indexCast v22
  let c4096 : Index := 4096#32
  ![v615.toNat, 4096]
def k0_off18 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v652 : Index := Scalar.indexCast v22
  let c4352 : Index := 4352#32
  ![v652.toNat, 4352]
def k0_off19 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v689 : Index := Scalar.indexCast v22
  let c4608 : Index := 4608#32
  ![v689.toNat, 4608]
def k0_off20 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v726 : Index := Scalar.indexCast v22
  let c4864 : Index := 4864#32
  ![v726.toNat, 4864]
def k0_off21 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v763 : Index := Scalar.indexCast v22
  let c5120 : Index := 5120#32
  ![v763.toNat, 5120]
def k0_off22 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v800 : Index := Scalar.indexCast v22
  let c5376 : Index := 5376#32
  ![v800.toNat, 5376]
def k0_off23 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v837 : Index := Scalar.indexCast v22
  let c5632 : Index := 5632#32
  ![v837.toNat, 5632]
def k0_off24 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v874 : Index := Scalar.indexCast v22
  let c5888 : Index := 5888#32
  ![v874.toNat, 5888]
def k0_off25 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v911 : Index := Scalar.indexCast v22
  let c6144 : Index := 6144#32
  ![v911.toNat, 6144]
def k0_off26 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v948 : Index := Scalar.indexCast v22
  let c6400 : Index := 6400#32
  ![v948.toNat, 6400]
def k0_off27 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v985 : Index := Scalar.indexCast v22
  let c6656 : Index := 6656#32
  ![v985.toNat, 6656]
def k0_off28 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v1022 : Index := Scalar.indexCast v22
  let c6912 : Index := 6912#32
  ![v1022.toNat, 6912]
def k0_off29 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v1059 : Index := Scalar.indexCast v22
  let c7168 : Index := 7168#32
  ![v1059.toNat, 7168]
def k0_off30 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v1096 : Index := Scalar.indexCast v22
  let c7424 : Index := 7424#32
  ![v1096.toNat, 7424]
def k0_off31 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v1133 : Index := Scalar.indexCast v22
  let c7680 : Index := 7680#32
  ![v1133.toNat, 7680]
def k0_off32 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v1170 : Index := Scalar.indexCast v22
  let c7936 : Index := 7936#32
  ![v1170.toNat, 7936]
def k0_off33 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v1207 : Index := Scalar.indexCast v22
  let c8192 : Index := 8192#32
  ![v1207.toNat, 8192]
def k0_off34 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v1244 : Index := Scalar.indexCast v22
  let c8448 : Index := 8448#32
  ![v1244.toNat, 8448]
def k0_off35 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v1281 : Index := Scalar.indexCast v22
  let c8704 : Index := 8704#32
  ![v1281.toNat, 8704]
def k0_off36 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v1318 : Index := Scalar.indexCast v22
  let c8960 : Index := 8960#32
  ![v1318.toNat, 8960]
def k0_off37 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3524 : Index := Scalar.indexCast v22
  let c0_2365 : Index := 0#32
  ![v3524.toNat, 0]
def k0_off38 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3548 : Index := Scalar.indexCast v22
  let c0_2380 : Index := 0#32
  ![v3548.toNat, 0]
def k0_off39 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3572 : Index := Scalar.indexCast v22
  let c128_2395 : Index := 128#32
  ![v3572.toNat, 128]
def k0_off40 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3596 : Index := Scalar.indexCast v22
  let c256_2410 : Index := 256#32
  ![v3596.toNat, 256]
def k0_off41 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3620 : Index := Scalar.indexCast v22
  let c384 : Index := 384#32
  ![v3620.toNat, 384]
def k0_off42 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3644 : Index := Scalar.indexCast v22
  let c512_2439 : Index := 512#32
  ![v3644.toNat, 512]
def k0_off43 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3668 : Index := Scalar.indexCast v22
  let c640 : Index := 640#32
  ![v3668.toNat, 640]
def k0_off44 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3692 : Index := Scalar.indexCast v22
  let c768_2468 : Index := 768#32
  ![v3692.toNat, 768]
def k0_off45 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3716 : Index := Scalar.indexCast v22
  let c896 : Index := 896#32
  ![v3716.toNat, 896]
def k0_off46 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3740 : Index := Scalar.indexCast v22
  let c1024_2497 : Index := 1024#32
  ![v3740.toNat, 1024]
def k0_off47 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3764 : Index := Scalar.indexCast v22
  let c1152 : Index := 1152#32
  ![v3764.toNat, 1152]
def k0_off48 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3788 : Index := Scalar.indexCast v22
  let c1280_2526 : Index := 1280#32
  ![v3788.toNat, 1280]
def k0_off49 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3812 : Index := Scalar.indexCast v22
  let c1408 : Index := 1408#32
  ![v3812.toNat, 1408]
def k0_off50 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3836 : Index := Scalar.indexCast v22
  let c1536_2555 : Index := 1536#32
  ![v3836.toNat, 1536]
def k0_off51 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3860 : Index := Scalar.indexCast v22
  let c1664 : Index := 1664#32
  ![v3860.toNat, 1664]
def k0_off52 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3884 : Index := Scalar.indexCast v22
  let c1792_2584 : Index := 1792#32
  ![v3884.toNat, 1792]
def k0_off53 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3908 : Index := Scalar.indexCast v22
  let c1920 : Index := 1920#32
  ![v3908.toNat, 1920]
def k0_off54 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3932 : Index := Scalar.indexCast v22
  let c2048_2613 : Index := 2048#32
  ![v3932.toNat, 2048]
def k0_off55 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3956 : Index := Scalar.indexCast v22
  let c2176 : Index := 2176#32
  ![v3956.toNat, 2176]
def k0_off56 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v3980 : Index := Scalar.indexCast v22
  let c2304_2642 : Index := 2304#32
  ![v3980.toNat, 2304]
def k0_off57 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4004 : Index := Scalar.indexCast v22
  let c2432 : Index := 2432#32
  ![v4004.toNat, 2432]
def k0_off58 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4028 : Index := Scalar.indexCast v22
  let c2560_2671 : Index := 2560#32
  ![v4028.toNat, 2560]
def k0_off59 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4052 : Index := Scalar.indexCast v22
  let c2688 : Index := 2688#32
  ![v4052.toNat, 2688]
def k0_off60 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4076 : Index := Scalar.indexCast v22
  let c2816_2700 : Index := 2816#32
  ![v4076.toNat, 2816]
def k0_off61 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4100 : Index := Scalar.indexCast v22
  let c2944 : Index := 2944#32
  ![v4100.toNat, 2944]
def k0_off62 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4124 : Index := Scalar.indexCast v22
  let c3072_2729 : Index := 3072#32
  ![v4124.toNat, 3072]
def k0_off63 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4148 : Index := Scalar.indexCast v22
  let c3200 : Index := 3200#32
  ![v4148.toNat, 3200]
def k0_off64 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4172 : Index := Scalar.indexCast v22
  let c3328_2758 : Index := 3328#32
  ![v4172.toNat, 3328]
def k0_off65 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4196 : Index := Scalar.indexCast v22
  let c3456 : Index := 3456#32
  ![v4196.toNat, 3456]
def k0_off66 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4220 : Index := Scalar.indexCast v22
  let c3584_2787 : Index := 3584#32
  ![v4220.toNat, 3584]
def k0_off67 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4244 : Index := Scalar.indexCast v22
  let c3712 : Index := 3712#32
  ![v4244.toNat, 3712]
def k0_off68 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4268 : Index := Scalar.indexCast v22
  let c3840_2816 : Index := 3840#32
  ![v4268.toNat, 3840]
def k0_off69 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4292 : Index := Scalar.indexCast v22
  let c3968 : Index := 3968#32
  ![v4292.toNat, 3968]
def k0_off70 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4316 : Index := Scalar.indexCast v22
  let c4096_2845 : Index := 4096#32
  ![v4316.toNat, 4096]
def k0_off71 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4340 : Index := Scalar.indexCast v22
  let c4224 : Index := 4224#32
  ![v4340.toNat, 4224]
def k0_off72 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4364 : Index := Scalar.indexCast v22
  let c4352_2874 : Index := 4352#32
  ![v4364.toNat, 4352]
def k0_off73 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4388 : Index := Scalar.indexCast v22
  let c4480 : Index := 4480#32
  ![v4388.toNat, 4480]
def k0_off74 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4412 : Index := Scalar.indexCast v22
  let c4608_2903 : Index := 4608#32
  ![v4412.toNat, 4608]
def k0_off75 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4436 : Index := Scalar.indexCast v22
  let c4736 : Index := 4736#32
  ![v4436.toNat, 4736]
def k0_off76 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4460 : Index := Scalar.indexCast v22
  let c4864_2932 : Index := 4864#32
  ![v4460.toNat, 4864]
def k0_off77 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4484 : Index := Scalar.indexCast v22
  let c4992 : Index := 4992#32
  ![v4484.toNat, 4992]
def k0_off78 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4508 : Index := Scalar.indexCast v22
  let c5120_2961 : Index := 5120#32
  ![v4508.toNat, 5120]
def k0_off79 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4532 : Index := Scalar.indexCast v22
  let c5248 : Index := 5248#32
  ![v4532.toNat, 5248]
def k0_off80 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4556 : Index := Scalar.indexCast v22
  let c5376_2990 : Index := 5376#32
  ![v4556.toNat, 5376]
def k0_off81 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4580 : Index := Scalar.indexCast v22
  let c5504 : Index := 5504#32
  ![v4580.toNat, 5504]
def k0_off82 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4604 : Index := Scalar.indexCast v22
  let c5632_3019 : Index := 5632#32
  ![v4604.toNat, 5632]
def k0_off83 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4628 : Index := Scalar.indexCast v22
  let c5760 : Index := 5760#32
  ![v4628.toNat, 5760]
def k0_off84 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4652 : Index := Scalar.indexCast v22
  let c5888_3048 : Index := 5888#32
  ![v4652.toNat, 5888]
def k0_off85 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4676 : Index := Scalar.indexCast v22
  let c6016 : Index := 6016#32
  ![v4676.toNat, 6016]
def k0_off86 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4700 : Index := Scalar.indexCast v22
  let c6144_3077 : Index := 6144#32
  ![v4700.toNat, 6144]
def k0_off87 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4724 : Index := Scalar.indexCast v22
  let c6272 : Index := 6272#32
  ![v4724.toNat, 6272]
def k0_off88 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4748 : Index := Scalar.indexCast v22
  let c6400_3106 : Index := 6400#32
  ![v4748.toNat, 6400]
def k0_off89 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4772 : Index := Scalar.indexCast v22
  let c6528 : Index := 6528#32
  ![v4772.toNat, 6528]
def k0_off90 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4796 : Index := Scalar.indexCast v22
  let c6656_3135 : Index := 6656#32
  ![v4796.toNat, 6656]
def k0_off91 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4820 : Index := Scalar.indexCast v22
  let c6784 : Index := 6784#32
  ![v4820.toNat, 6784]
def k0_off92 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4844 : Index := Scalar.indexCast v22
  let c6912_3164 : Index := 6912#32
  ![v4844.toNat, 6912]
def k0_off93 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4868 : Index := Scalar.indexCast v22
  let c7040 : Index := 7040#32
  ![v4868.toNat, 7040]
def k0_off94 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4892 : Index := Scalar.indexCast v22
  let c7168_3193 : Index := 7168#32
  ![v4892.toNat, 7168]
def k0_off95 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4916 : Index := Scalar.indexCast v22
  let c7296 : Index := 7296#32
  ![v4916.toNat, 7296]
def k0_off96 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4940 : Index := Scalar.indexCast v22
  let c7424_3222 : Index := 7424#32
  ![v4940.toNat, 7424]
def k0_off97 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4964 : Index := Scalar.indexCast v22
  let c7552 : Index := 7552#32
  ![v4964.toNat, 7552]
def k0_off98 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v4988 : Index := Scalar.indexCast v22
  let c7680_3251 : Index := 7680#32
  ![v4988.toNat, 7680]
def k0_off99 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v5012 : Index := Scalar.indexCast v22
  let c7808 : Index := 7808#32
  ![v5012.toNat, 7808]
def k0_off100 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v5036 : Index := Scalar.indexCast v22
  let c7936_3280 : Index := 7936#32
  ![v5036.toNat, 7936]
def k0_off101 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v5060 : Index := Scalar.indexCast v22
  let c8064 : Index := 8064#32
  ![v5060.toNat, 8064]
def k0_off102 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v5084 : Index := Scalar.indexCast v22
  let c8192_3309 : Index := 8192#32
  ![v5084.toNat, 8192]
def k0_off103 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v5108 : Index := Scalar.indexCast v22
  let c8320 : Index := 8320#32
  ![v5108.toNat, 8320]
def k0_off104 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v5132 : Index := Scalar.indexCast v22
  let c8448_3338 : Index := 8448#32
  ![v5132.toNat, 8448]
def k0_off105 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v5156 : Index := Scalar.indexCast v22
  let c8576 : Index := 8576#32
  ![v5156.toNat, 8576]
def k0_off106 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v5180 : Index := Scalar.indexCast v22
  let c8704_3367 : Index := 8704#32
  ![v5180.toNat, 8704]
def k0_off107 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v5204 : Index := Scalar.indexCast v22
  let c8832 : Index := 8832#32
  ![v5204.toNat, 8832]
def k0_off108 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v5228 : Index := Scalar.indexCast v22
  let c8960_3396 : Index := 8960#32
  ![v5228.toNat, 8960]
def k0_off109 (k0_t1 : Fin k0_t1_loop.trips) : Fin 2 → Nat :=
  let c0_i32_9 : BitVec 32 := 0#32
  let c0_i32 : BitVec 32 := 0#32
  let c1_i32 : BitVec 32 := 1#32
  let arg11 : BitVec 32 := Scf.iv c0_i32 c1_i32 k0_t1
  let c1_i32_8 : BitVec 32 := 1#32
  let v19 : BitVec 32 := Scalar.muli arg11 c1_i32_8
  let v20 : BitVec 32 := Scalar.addi c0_i32_9 v19
  let c32_i32 : BitVec 32 := 32#32
  let v21 : BitVec 32 := Scalar.muli v20 c32_i32
  let v22 : BitVec 32 := v21
  let v5252 : Index := Scalar.indexCast v22
  let c9088 : Index := 9088#32
  ![v5252.toNat, 9088]
@[reducible] def k0_t2_loop : Scf.Loop 32 :=
  let c0_i32_5 : BitVec 32 := 0#32
  let c9_i32 : BitVec 32 := 9#32
  let v18 : BitVec 32 := Scalar.addi c0_i32_5 c9_i32
  let c1_i32_6 : BitVec 32 := 1#32
  ⟨c0_i32_5, v18, c1_i32_6⟩
def k0_mult2 (k0_t2 : Fin k0_t2_loop.trips) : BitVec 32 :=
  let c0_i32_9 : BitVec 32 := 0#32
  let c0_i32_5 : BitVec 32 := 0#32
  let c1_i32_6 : BitVec 32 := 1#32
  let arg11 : BitVec 32 := Scf.iv c0_i32_5 c1_i32_6 k0_t2
  let c1_i32_8 : BitVec 32 := 1#32
  let v19 : BitVec 32 := Scalar.muli arg11 c1_i32_8
  let v20 : BitVec 32 := Scalar.addi c0_i32_9 v19
  let c256_i32 : BitVec 32 := 256#32
  let v21 : BitVec 32 := Scalar.muli v20 c256_i32
  v21
def k0_off110 (k0_t2 : Fin k0_t2_loop.trips) : Fin 2 → Nat :=
  let c0_12 : Index := 0#32
  let c0_i32_9 : BitVec 32 := 0#32
  let c0_i32_5 : BitVec 32 := 0#32
  let c1_i32_6 : BitVec 32 := 1#32
  let arg11 : BitVec 32 := Scf.iv c0_i32_5 c1_i32_6 k0_t2
  let c1_i32_8 : BitVec 32 := 1#32
  let v19 : BitVec 32 := Scalar.muli arg11 c1_i32_8
  let v20 : BitVec 32 := Scalar.addi c0_i32_9 v19
  let c256_i32 : BitVec 32 := 256#32
  let v21 : BitVec 32 := Scalar.muli v20 c256_i32
  let v22 : BitVec 32 := v21
  let v25 : Index := Scalar.indexCast v22
  ![0, v25.toNat]
def k0_off111 (k0_t2 : Fin k0_t2_loop.trips) : Fin 2 → Nat :=
  let c0_13 : Index := 0#32
  let c0_i32_9 : BitVec 32 := 0#32
  let c0_i32_5 : BitVec 32 := 0#32
  let c1_i32_6 : BitVec 32 := 1#32
  let arg11 : BitVec 32 := Scf.iv c0_i32_5 c1_i32_6 k0_t2
  let c1_i32_8 : BitVec 32 := 1#32
  let v19 : BitVec 32 := Scalar.muli arg11 c1_i32_8
  let v20 : BitVec 32 := Scalar.addi c0_i32_9 v19
  let c256_i32 : BitVec 32 := 256#32
  let v21 : BitVec 32 := Scalar.muli v20 c256_i32
  let v22 : BitVec 32 := v21
  let v30 : Index := Scalar.indexCast v22
  ![0, v30.toNat]
def k0_off112 (k0_t2 : Fin k0_t2_loop.trips) : Fin 2 → Nat :=
  let c0_14 : Index := 0#32
  let c0_i32_9 : BitVec 32 := 0#32
  let c0_i32_5 : BitVec 32 := 0#32
  let c1_i32_6 : BitVec 32 := 1#32
  let arg11 : BitVec 32 := Scf.iv c0_i32_5 c1_i32_6 k0_t2
  let c1_i32_8 : BitVec 32 := 1#32
  let v19 : BitVec 32 := Scalar.muli arg11 c1_i32_8
  let v20 : BitVec 32 := Scalar.addi c0_i32_9 v19
  let c256_i32 : BitVec 32 := 256#32
  let v21 : BitVec 32 := Scalar.muli v20 c256_i32
  let v22 : BitVec 32 := v21
  let v36 : Index := Scalar.indexCast v22
  ![0, v36.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x9216 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S72x216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9216x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2304 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x9216 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F]
-- ==== ReferenceIdeal.lean ====
abbrev S2x1024x9216 : Shape := ⟨3, ![2, 1024, 9216]⟩
abbrev S36x36 : Shape := ⟨2, ![36, 36]⟩
abbrev S9216x2304 : Shape := ⟨2, ![9216, 2304]⟩
abbrev S2304 : Shape := ⟨1, ![2304]⟩
abbrev S254 : Shape := ⟨1, ![254]⟩
abbrev S2x1024x36x256 : Shape := ⟨4, ![2, 1024, 36, 256]⟩
abbrev S36x2x1024x256 : Shape := ⟨4, ![36, 2, 1024, 256]⟩
abbrev S2x1024x36x128x2x1 : Shape := ⟨6, ![2, 1024, 36, 128, 2, 1]⟩
abbrev S2x1024x36x128x1x1 : Shape := ⟨6, ![2, 1024, 36, 128, 1, 1]⟩
abbrev S2x1024x36x128x1 : Shape := ⟨5, ![2, 1024, 36, 128, 1]⟩
abbrev S2x1024x36x64x2x2 : Shape := ⟨6, ![2, 1024, 36, 64, 2, 2]⟩
abbrev S2x1024x36x64x1x2 : Shape := ⟨6, ![2, 1024, 36, 64, 1, 2]⟩
abbrev S2x1024x36x64x2 : Shape := ⟨5, ![2, 1024, 36, 64, 2]⟩
abbrev S2x1024x36x32x2x4 : Shape := ⟨6, ![2, 1024, 36, 32, 2, 4]⟩
abbrev S2x1024x36x32x1x4 : Shape := ⟨6, ![2, 1024, 36, 32, 1, 4]⟩
abbrev S2x1024x36x32x4 : Shape := ⟨5, ![2, 1024, 36, 32, 4]⟩
abbrev S2x1024x36x16x2x8 : Shape := ⟨6, ![2, 1024, 36, 16, 2, 8]⟩
abbrev S2x1024x36x16x1x8 : Shape := ⟨6, ![2, 1024, 36, 16, 1, 8]⟩
abbrev S2x1024x36x16x8 : Shape := ⟨5, ![2, 1024, 36, 16, 8]⟩
abbrev S2x1024x36x8x2x16 : Shape := ⟨6, ![2, 1024, 36, 8, 2, 16]⟩
abbrev S2x1024x36x8x1x16 : Shape := ⟨6, ![2, 1024, 36, 8, 1, 16]⟩
abbrev S2x1024x36x8x16 : Shape := ⟨5, ![2, 1024, 36, 8, 16]⟩
abbrev S2x1024x36x4x2x32 : Shape := ⟨6, ![2, 1024, 36, 4, 2, 32]⟩
abbrev S2x1024x36x4x1x32 : Shape := ⟨6, ![2, 1024, 36, 4, 1, 32]⟩
abbrev S2x1024x36x4x32 : Shape := ⟨5, ![2, 1024, 36, 4, 32]⟩
abbrev S2x1024x36x2x2x64 : Shape := ⟨6, ![2, 1024, 36, 2, 2, 64]⟩
abbrev S2x1024x36x2x1x64 : Shape := ⟨6, ![2, 1024, 36, 2, 1, 64]⟩
abbrev S2x1024x36x2x64 : Shape := ⟨5, ![2, 1024, 36, 2, 64]⟩
abbrev S2x1024x36x1x2x128 : Shape := ⟨6, ![2, 1024, 36, 1, 2, 128]⟩
abbrev S2x1024x36x1x1x128 : Shape := ⟨6, ![2, 1024, 36, 1, 1, 128]⟩
abbrev S2x1024x36x1x128 : Shape := ⟨5, ![2, 1024, 36, 1, 128]⟩
abbrev S_ : Shape := ⟨0, ![]⟩
abbrev S2048x9216 : Shape := ⟨2, ![2048, 9216]⟩
abbrev S2048 : Shape := ⟨1, ![2048]⟩
abbrev S2048x1 : Shape := ⟨2, ![2048, 1]⟩
abbrev S1x254 : Shape := ⟨2, ![1, 254]⟩
abbrev S2048x254 : Shape := ⟨2, ![2048, 254]⟩
abbrev S1x2304 : Shape := ⟨2, ![1, 2304]⟩
abbrev S2048x2304 : Shape := ⟨2, ![2048, 2304]⟩

abbrev nBuf : Space → Nat
  | .hbm => 130
  | .vmem => 6
  | .smem => 0
  | _ => 0

abbrev hbmTy0_0 (i : Nat) : BufTy := match i % 128 with
  | 0 => ⟨S2x1024x9216, .bf16⟩
  | 1 => ⟨S36x36, .f32⟩
  | 2 => ⟨S9216x2304, .fp8e4m3⟩
  | 3 => ⟨S2304, .f32⟩
  | 4 => ⟨S254, .f32⟩
  | 5 => ⟨S2x1024x9216, .f32⟩
  | 6 => ⟨S2x1024x36x256, .f32⟩
  | 7 => ⟨S36x2x1024x256, .f32⟩
  | 8 => ⟨S2x1024x36x256, .f32⟩
  | 9 => ⟨S2x1024x36x128x2x1, .f32⟩
  | 10 => ⟨S2x1024x36x128x1x1, .f32⟩
  | 11 => ⟨S2x1024x36x128x1, .f32⟩
  | 12 => ⟨S2x1024x36x128x1x1, .f32⟩
  | 13 => ⟨S2x1024x36x128x1, .f32⟩
  | 14 => ⟨S2x1024x36x128x1, .f32⟩
  | 15 => ⟨S2x1024x36x128x1, .f32⟩
  | 16 => ⟨S2x1024x36x128x1x1, .f32⟩
  | 17 => ⟨S2x1024x36x128x1x1, .f32⟩
  | 18 => ⟨S2x1024x36x128x2x1, .f32⟩
  | 19 => ⟨S2x1024x36x256, .f32⟩
  | 20 => ⟨S2x1024x36x64x2x2, .f32⟩
  | 21 => ⟨S2x1024x36x64x1x2, .f32⟩
  | 22 => ⟨S2x1024x36x64x2, .f32⟩
  | 23 => ⟨S2x1024x36x64x1x2, .f32⟩
  | 24 => ⟨S2x1024x36x64x2, .f32⟩
  | 25 => ⟨S2x1024x36x64x2, .f32⟩
  | 26 => ⟨S2x1024x36x64x2, .f32⟩
  | 27 => ⟨S2x1024x36x64x1x2, .f32⟩
  | 28 => ⟨S2x1024x36x64x1x2, .f32⟩
  | 29 => ⟨S2x1024x36x64x2x2, .f32⟩
  | 30 => ⟨S2x1024x36x256, .f32⟩
  | 31 => ⟨S2x1024x36x32x2x4, .f32⟩
  | 32 => ⟨S2x1024x36x32x1x4, .f32⟩
  | 33 => ⟨S2x1024x36x32x4, .f32⟩
  | 34 => ⟨S2x1024x36x32x1x4, .f32⟩
  | 35 => ⟨S2x1024x36x32x4, .f32⟩
  | 36 => ⟨S2x1024x36x32x4, .f32⟩
  | 37 => ⟨S2x1024x36x32x4, .f32⟩
  | 38 => ⟨S2x1024x36x32x1x4, .f32⟩
  | 39 => ⟨S2x1024x36x32x1x4, .f32⟩
  | 40 => ⟨S2x1024x36x32x2x4, .f32⟩
  | 41 => ⟨S2x1024x36x256, .f32⟩
  | 42 => ⟨S2x1024x36x16x2x8, .f32⟩
  | 43 => ⟨S2x1024x36x16x1x8, .f32⟩
  | 44 => ⟨S2x1024x36x16x8, .f32⟩
  | 45 => ⟨S2x1024x36x16x1x8, .f32⟩
  | 46 => ⟨S2x1024x36x16x8, .f32⟩
  | 47 => ⟨S2x1024x36x16x8, .f32⟩
  | 48 => ⟨S2x1024x36x16x8, .f32⟩
  | 49 => ⟨S2x1024x36x16x1x8, .f32⟩
  | 50 => ⟨S2x1024x36x16x1x8, .f32⟩
  | 51 => ⟨S2x1024x36x16x2x8, .f32⟩
  | 52 => ⟨S2x1024x36x256, .f32⟩
  | 53 => ⟨S2x1024x36x8x2x16, .f32⟩
  | 54 => ⟨S2x1024x36x8x1x16, .f32⟩
  | 55 => ⟨S2x1024x36x8x16, .f32⟩
  | 56 => ⟨S2x1024x36x8x1x16, .f32⟩
  | 57 => ⟨S2x1024x36x8x16, .f32⟩
  | 58 => ⟨S2x1024x36x8x16, .f32⟩
  | 59 => ⟨S2x1024x36x8x16, .f32⟩
  | 60 => ⟨S2x1024x36x8x1x16, .f32⟩
  | 61 => ⟨S2x1024x36x8x1x16, .f32⟩
  | 62 => ⟨S2x1024x36x8x2x16, .f32⟩
  | 63 => ⟨S2x1024x36x256, .f32⟩
  | 64 => ⟨S2x1024x36x4x2x32, .f32⟩
  | 65 => ⟨S2x1024x36x4x1x32, .f32⟩
  | 66 => ⟨S2x1024x36x4x32, .f32⟩
  | 67 => ⟨S2x1024x36x4x1x32, .f32⟩
  | 68 => ⟨S2x1024x36x4x32, .f32⟩
  | 69 => ⟨S2x1024x36x4x32, .f32⟩
  | 70 => ⟨S2x1024x36x4x32, .f32⟩
  | 71 => ⟨S2x1024x36x4x1x32, .f32⟩
  | 72 => ⟨S2x1024x36x4x1x32, .f32⟩
  | 73 => ⟨S2x1024x36x4x2x32, .f32⟩
  | 74 => ⟨S2x1024x36x256, .f32⟩
  | 75 => ⟨S2x1024x36x2x2x64, .f32⟩
  | 76 => ⟨S2x1024x36x2x1x64, .f32⟩
  | 77 => ⟨S2x1024x36x2x64, .f32⟩
  | 78 => ⟨S2x1024x36x2x1x64, .f32⟩
  | 79 => ⟨S2x1024x36x2x64, .f32⟩
  | 80 => ⟨S2x1024x36x2x64, .f32⟩
  | 81 => ⟨S2x1024x36x2x64, .f32⟩
  | 82 => ⟨S2x1024x36x2x1x64, .f32⟩
  | 83 => ⟨S2x1024x36x2x1x64, .f32⟩
  | 84 => ⟨S2x1024x36x2x2x64, .f32⟩
  | 85 => ⟨S2x1024x36x256, .f32⟩
  | 86 => ⟨S2x1024x36x1x2x128, .f32⟩
  | 87 => ⟨S2x1024x36x1x1x128, .f32⟩
  | 88 => ⟨S2x1024x36x1x128, .f32⟩
  | 89 => ⟨S2x1024x36x1x1x128, .f32⟩
  | 90 => ⟨S2x1024x36x1x128, .f32⟩
  | 91 => ⟨S2x1024x36x1x128, .f32⟩
  | 92 => ⟨S2x1024x36x1x128, .f32⟩
  | 93 => ⟨S2x1024x36x1x1x128, .f32⟩
  | 94 => ⟨S2x1024x36x1x1x128, .f32⟩
  | 95 => ⟨S2x1024x36x1x2x128, .f32⟩
  | 96 => ⟨S2x1024x36x256, .f32⟩
  | 97 => ⟨S_, .f32⟩
  | 98 => ⟨S2x1024x36x256, .f32⟩
  | 99 => ⟨S2x1024x36x256, .f32⟩
  | 100 => ⟨S2048x9216, .f32⟩
  | 101 => ⟨S2048x9216, .f32⟩
  | 102 => ⟨S_, .f32⟩
  | 103 => ⟨S2048, .f32⟩
  | 104 => ⟨S_, .f32⟩
  | 105 => ⟨S2048, .f32⟩
  | 106 => ⟨S2048, .f32⟩
  | 107 => ⟨S2048x1, .f32⟩
  | 108 => ⟨S1x254, .f32⟩
  | 109 => ⟨S2048x254, .f32⟩
  | 110 => ⟨S2048x254, .f32⟩
  | 111 => ⟨S2048x254, .i1⟩
  | 112 => ⟨S_, .f32⟩
  | 113 => ⟨S_, .f32⟩
  | 114 => ⟨S2048x254, .f32⟩
  | 115 => ⟨S2048x254, .f32⟩
  | 116 => ⟨S2048x254, .f32⟩
  | 117 => ⟨S_, .f32⟩
  | 118 => ⟨S2048, .f32⟩
  | 119 => ⟨S_, .f32⟩
  | 120 => ⟨S2048, .f32⟩
  | 121 => ⟨S2048, .i1⟩
  | 122 => ⟨S_, .f32⟩
  | 123 => ⟨S_, .f32⟩
  | 124 => ⟨S2048, .f32⟩
  | 125 => ⟨S2048, .f32⟩
  | 126 => ⟨S2048x1, .f32⟩
  | 127 => ⟨S1x2304, .f32⟩
  | _ => ⟨S2x1024x9216, .bf16⟩

abbrev hbmTy0_1 (i : Nat) : BufTy := match i % 128 with
  | 0 => ⟨S2048x2304, .bf16⟩
  | 1 => ⟨S2048x9216, .fp8e4m3⟩
  | _ => ⟨S2x1024x9216, .bf16⟩

abbrev hbmTy (i : Nat) : BufTy := match i / 128 with
  | 0 => hbmTy0_0 i
  | 1 => hbmTy0_1 i
  | _ => ⟨S2x1024x9216, .bf16⟩

abbrev bufTy : (tb : Table) → Fin (tcTables nBuf tb) → BufTy
  | .hbm, ⟨i, _⟩ => hbmTy i
  | .local _ .vmem, ⟨0, _⟩ => ⟨S2048x9216, .f32⟩
  | .local _ .vmem, ⟨1, _⟩ => ⟨S2048x1, .f32⟩
  | .local _ .vmem, ⟨2, _⟩ => ⟨S9216x2304, .fp8e4m3⟩
  | .local _ .vmem, ⟨3, _⟩ => ⟨S1x2304, .f32⟩
  | .local _ .vmem, ⟨4, _⟩ => ⟨S2048x2304, .bf16⟩
  | .local _ .vmem, ⟨5, _⟩ => ⟨S2048x9216, .fp8e4m3⟩
  | _, _ => ⟨S2x1024x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_cst_0 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_cst_1 : Ref sig .tc := ⟨.hbm, 102, rfl⟩
abbrev main_v96 : Ref sig .tc := ⟨.hbm, 103, rfl⟩
abbrev main_cst_2 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_cst_3 : Ref sig .tc := ⟨.hbm, 112, rfl⟩
abbrev main_call0_v0 : Ref sig .tc := ⟨.hbm, 113, rfl⟩
abbrev main_call0_v1 : Ref sig .tc := ⟨.hbm, 114, rfl⟩
abbrev main_call0_v2 : Ref sig .tc := ⟨.hbm, 115, rfl⟩
abbrev main_v104 : Ref sig .tc := ⟨.hbm, 116, rfl⟩
abbrev main_cst_4 : Ref sig .tc := ⟨.hbm, 117, rfl⟩
abbrev main_v105 : Ref sig .tc := ⟨.hbm, 118, rfl⟩
abbrev main_cst_5 : Ref sig .tc := ⟨.hbm, 119, rfl⟩
abbrev main_v106 : Ref sig .tc := ⟨.hbm, 120, rfl⟩
abbrev main_v107 : Ref sig .tc := ⟨.hbm, 121, rfl⟩
abbrev main_cst_6 : Ref sig .tc := ⟨.hbm, 122, rfl⟩
abbrev main_call1_v0 : Ref sig .tc := ⟨.hbm, 123, rfl⟩
abbrev main_call1_v1 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111_0 : Ref sig .tc := ⟨.hbm, 128, rfl⟩
abbrev main_v111_1 : Ref sig .tc := ⟨.hbm, 129, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x9216 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Steps.lean ====
/-
  One step of a straight-line program at a time, over six buffers held together.

  A trip of the kernel's row loop is a long straight line of loads and stores on six buffers: it reads the
  tile `a1` and the matrix `a3`, and reads and writes `a7`, `a8`, `a9`, `a10`. `Runs` says that a program runs
  to `Q` from any contents of the four written buffers that satisfy given conditions (one condition per buffer),
  the two others held at fixed contents. Each lemma here takes one load or one store off the front of the program.
-/
module

public import Idealize.ShloMosaic.Lib.Exec
public import Idealize.ShloMosaic.Lib.Tactic
public import Idealize.ShloMosaic.Lib.Writes

@[expose] public section

noncomputable section

namespace Cert.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {U : Type} [URA U]
variable {s1 s3 s7 s8 s9 s10 : Shape} {e1 e3 e7 e8 e9 e10 : EltTy} {α : Type}

/-- The contents of the buffer a memref names. -/
abbrev Cont (Val : EltTy → Type) {s : Shape} {e : EltTy} (a : Memref sig .tc .vmem s e) : Type := BufTy.Contents Val a.view.ty

/-- The six buffers, each held whole at its contents. -/
abbrev held (U : Type) [URA U] (c : Dev nD) (a1 : Memref sig .tc .vmem s1 e1) (a3 : Memref sig .tc .vmem s3 e3) (a7 : Memref sig .tc .vmem s7 e7)
    (a8 : Memref sig .tc .vmem s8 e8) (a9 : Memref sig .tc .vmem s9 e9) (a10 : Memref sig .tc .vmem s10 e10)
    (X1 : Cont Val a1) (X3 : Cont Val a3) (f7 : Cont Val a7) (f8 : Cont Val a8) (f9 : Cont Val a9) (f10 : Cont Val a10) :
    sProp (MT nD τ sig Unit Val ℕ U ℕ) :=
  iprop((a1.view.loc (c : Thread nD τ) ↦[a1.view.set]{fullShare} X1) ∗ (a3.view.loc (c : Thread nD τ) ↦[a3.view.set]{fullShare} X3)
    ∗ (a7.view.loc (c : Thread nD τ) ↦[a7.view.set]{fullShare} f7) ∗ (a8.view.loc (c : Thread nD τ) ↦[a8.view.set]{fullShare} f8)
    ∗ (a9.view.loc (c : Thread nD τ) ↦[a9.view.set]{fullShare} f9) ∗ (a10.view.loc (c : Thread nD τ) ↦[a10.view.set]{fullShare} f10))

/-- From any contents of the four written buffers satisfying `I7`, `I8`, `I9`, `I10`, the program `p` runs to `Q`. -/
def Runs (defs : Defs nD τ sig Val Λ) (𝒱 : Variants) (c : Dev nD) (bd : Option 𝒱.V) (E : Set ℕ)
    (a1 : Memref sig .tc .vmem s1 e1) (a3 : Memref sig .tc .vmem s3 e3) (a7 : Memref sig .tc .vmem s7 e7)
    (a8 : Memref sig .tc .vmem s8 e8) (a9 : Memref sig .tc .vmem s9 e9) (a10 : Memref sig .tc .vmem s10 e10)
    (X1 : Cont Val a1) (X3 : Cont Val a3) (Q : α → sProp (MT nD τ sig Unit Val ℕ U ℕ))
    (I7 : Cont Val a7 → Prop) (I8 : Cont Val a8 → Prop) (I9 : Cont Val a9 → Prop) (I10 : Cont Val a10 → Prop)
    (p : Prog (TpuEff nD τ sig Val Λ .tc) α) : Prop :=
  ∀ f7 f8 f9 f10, I7 f7 → I8 f8 → I9 f9 → I10 f10 →
    held U c a1 a3 a7 a8 a9 a10 X1 X3 f7 f8 f9 f10 ⊢ wp frame (wpE defs 𝒱 (c : Thread nD τ) bd) E p Q

variable {defs : Defs nD τ sig Val Λ} {𝒱 : Variants} {c : Dev nD} {bd : Option 𝒱.V} {E : Set ℕ}
variable {a1 : Memref sig .tc .vmem s1 e1} {a3 : Memref sig .tc .vmem s3 e3} {a7 : Memref sig .tc .vmem s7 e7}
variable {a8 : Memref sig .tc .vmem s8 e8} {a9 : Memref sig .tc .vmem s9 e9} {a10 : Memref sig .tc .vmem s10 e10}
variable {X1 : Cont Val a1} {X3 : Cont Val a3} {Q : α → sProp (MT nD τ sig Unit Val ℕ U ℕ)}
variable {I7 : Cont Val a7 → Prop} {I8 : Cont Val a8 → Prop} {I9 : Cont Val a9 → Prop} {I10 : Cont Val a10 → Prop}

/-- The end of the program: what remains to show is the postcondition. -/
theorem Runs.ret {v : α} (h : ∀ f7 f8 f9 f10, I7 f7 → I8 f8 → I9 f9 → I10 f10 →
      held U c a1 a3 a7 a8 a9 a10 X1 X3 f7 f8 f9 f10 ⊢ Q v) :
    Runs defs 𝒱 c bd E a1 a3 a7 a8 a9 a10 X1 X3 Q I7 I8 I9 I10 (.ret v) := by
  intro f7 f8 f9 f10 h7 h8 h9 h10
  rw [wp_ret]
  exact (h f7 f8 f9 f10 h7 h8 h9 h10).trans fupd_intro

/-! ### Bringing one buffer to the front

`x ⊣⊢ R ∗ y` for the six positions of `held`. -/

section Perm

variable {M : Type} [URA M] {A B R Y : sProp M}

theorem pull_here : iprop(A ∗ B) ⊣⊢ iprop(B ∗ A) := BIBase.BiEntails.mk BI.sep_comm BI.sep_comm

theorem pull_next (h : B ⊣⊢ iprop(R ∗ Y)) : iprop(A ∗ B) ⊣⊢ iprop((A ∗ R) ∗ Y) :=
  BIBase.BiEntails.mk ((BI.sep_mono_r h.1).trans BI.sep_assoc') (BI.sep_assoc.trans (BI.sep_mono_r h.2))

theorem pull_last : iprop(A ∗ B) ⊣⊢ iprop(A ∗ B) := BIBase.BiEntails.mk .rfl .rfl

end Perm

/-! ### Loads -/

/-- A load from `a1`, whose contents are fixed. -/
theorem Runs.load1 {r : LoadRect s1} {hl : a1.view.LoadsAt r} {k : (r.shape.Idx → Val e1) → Prog (TpuEff nD τ sig Val Λ .tc) α}
    (v : r.shape.Idx → Val e1) (hv : a1.view.readAt Val r X1 = v)
    (h : Runs defs 𝒱 c bd E a1 a3 a7 a8 a9 a10 X1 X3 Q I7 I8 I9 I10 (k v)) :
    Runs defs 𝒱 c bd E a1 a3 a7 a8 a9 a10 X1 X3 Q I7 I8 I9 I10 (.op (.load a1 r hl) k) := by
  intro f7 f8 f9 f10 h7 h8 h9 h10
  exact exec_load 𝒱 (c : Thread nD τ) bd E (m := a1) pull_here (a1.view.setOn_subset_set _) v hv (h f7 f8 f9 f10 h7 h8 h9 h10)

/-- A load from `a3`, whose contents are fixed. -/
theorem Runs.load3 {r : LoadRect s3} {hl : a3.view.LoadsAt r} {k : (r.shape.Idx → Val e3) → Prog (TpuEff nD τ sig Val Λ .tc) α}
    (v : r.shape.Idx → Val e3) (hv : a3.view.readAt Val r X3 = v)
    (h : Runs defs 𝒱 c bd E a1 a3 a7 a8 a9 a10 X1 X3 Q I7 I8 I9 I10 (k v)) :
    Runs defs 𝒱 c bd E a1 a3 a7 a8 a9 a10 X1 X3 Q I7 I8 I9 I10 (.op (.load a3 r hl) k) := by
  intro f7 f8 f9 f10 h7 h8 h9 h10
  exact exec_load 𝒱 (c : Thread nD τ) bd E (m := a3) (pull_next pull_here) (a3.view.setOn_subset_set _) v hv (h f7 f8 f9 f10 h7 h8 h9 h10)

/-- A load from `a7` of a value the program does not use. -/
theorem Runs.load7 {r : LoadRect s7} {hl : a7.view.LoadsAt r} {k : (r.shape.Idx → Val e7) → Prog (TpuEff nD τ sig Val Λ .tc) α}
    (h : ∀ v, Runs defs 𝒱 c bd E a1 a3 a7 a8 a9 a10 X1 X3 Q I7 I8 I9 I10 (k v)) :
    Runs defs 𝒱 c bd E a1 a3 a7 a8 a9 a10 X1 X3 Q I7 I8 I9 I10 (.op (.load a7 r hl) k) := by
  intro f7 f8 f9 f10 h7 h8 h9 h10
  exact exec_load 𝒱 (c : Thread nD τ) bd E (m := a7) (pull_next (pull_next pull_here)) (a7.view.setOn_subset_set _) _ rfl
    (h _ f7 f8 f9 f10 h7 h8 h9 h10)

/-- A load from `a8` of a value the program does not use. -/
theorem Runs.load8 {r : LoadRect s8} {hl : a8.view.LoadsAt r} {k : (r.shape.Idx → Val e8) → Prog (TpuEff nD τ sig Val Λ .tc) α}
    (h : ∀ v, Runs defs 𝒱 c bd E a1 a3 a7 a8 a9 a10 X1 X3 Q I7 I8 I9 I10 (k v)) :
    Runs defs 𝒱 c bd E a1 a3 a7 a8 a9 a10 X1 X3 Q I7 I8 I9 I10 (.op (.load a8 r hl) k) := by
  intro f7 f8 f9 f10 h7 h8 h9 h10
  exact exec_load 𝒱 (c : Thread nD τ) bd E (m := a8) (pull_next (pull_next (pull_next pull_here))) (a8.view.setOn_subset_set _) _ rfl
    (h _ f7 f8 f9 f10 h7 h8 h9 h10)

/-- A load from `a9`: the program goes on from every value the contents may give. -/
theorem Runs.load9 {r : LoadRect s9} {hl : a9.view.LoadsAt r} {k : (r.shape.Idx → Val e9) → Prog (TpuEff nD τ sig Val Λ .tc) α}
    (h : ∀ v, (∃ f, I9 f ∧ v = a9.view.readAt Val r f) → Runs defs 𝒱 c bd E a1 a3 a7 a8 a9 a10 X1 X3 Q I7 I8 I9 I10 (k v)) :
    Runs defs 𝒱 c bd E a1 a3 a7 a8 a9 a10 X1 X3 Q I7 I8 I9 I10 (.op (.load a9 r hl) k) := by
  intro f7 f8 f9 f10 h7 h8 h9 h10
  exact exec_load 𝒱 (c : Thread nD τ) bd E (m := a9) (pull_next (pull_next (pull_next (pull_next pull_here)))) (a9.view.setOn_subset_set _) _ rfl
    (h _ ⟨f9, h9, rfl⟩ f7 f8 f9 f10 h7 h8 h9 h10)

/-- A load from `a10`: the program goes on from every value the contents may give. -/
theorem Runs.load10 {r : LoadRect s10} {hl : a10.view.LoadsAt r} {k : (r.shape.Idx → Val e10) → Prog (TpuEff nD τ sig Val Λ .tc) α}
    (h : ∀ v, (∃ f, I10 f ∧ v = a10.view.readAt Val r f) → Runs defs 𝒱 c bd E a1 a3 a7 a8 a9 a10 X1 X3 Q I7 I8 I9 I10 (k v)) :
    Runs defs 𝒱 c bd E a1 a3 a7 a8 a9 a10 X1 X3 Q I7 I8 I9 I10 (.op (.load a10 r hl) k) := by
  intro f7 f8 f9 f10 h7 h8 h9 h10
  exact exec_load 𝒱 (c : Thread nD τ) bd E (m := a10) (pull_next (pull_next (pull_next (pull_next pull_last)))) (a10.view.setOn_subset_set _) _ rfl
    (h _ ⟨f10, h10, rfl⟩ f7 f8 f9 f10 h7 h8 h9 h10)

/-- The elements a squeezed slice names are elements of the memref it is a slice of. -/
theorem setOn_slice_squeeze {s s' : Shape} {e : EltTy} (a : Memref sig .tc .vmem s e) {r₀ : Rect s} {h₀ : ∀ x, r₀.stride x = 1}
    {hq : r₀.shape.Squeezes s'} (M : Finset s'.Idx) : ((a.slice r₀ h₀).squeeze s' hq).view.setOn M ⊆ a.view.set := by
  refine (View.setOn_subset_set _ _).trans ?_
  show ((a.view.slice r₀).reshape s' hq.numel_eq).set ⊆ _
  rw [View.set_reshape]
  exact a.view.set_slice_subset r₀

/-- A load from a squeezed slice of `a9`. -/
theorem Runs.load9s {s' : Shape} {r₀ : Rect s9} {h₀ : ∀ x, r₀.stride x = 1} {hq : r₀.shape.Squeezes s'} {r : LoadRect s'}
    {hl : ((a9.slice r₀ h₀).squeeze s' hq).view.LoadsAt r} {k : (r.shape.Idx → Val e9) → Prog (TpuEff nD τ sig Val Λ .tc) α}
    (h : ∀ v, (∃ f, I9 f ∧ v = ((a9.slice r₀ h₀).squeeze s' hq).view.readAt Val r f) →
      Runs defs 𝒱 c bd E a1 a3 a7 a8 a9 a10 X1 X3 Q I7 I8 I9 I10 (k v)) :
    Runs defs 𝒱 c bd E a1 a3 a7 a8 a9 a10 X1 X3 Q I7 I8 I9 I10 (.op (.load ((a9.slice r₀ h₀).squeeze s' hq) r hl) k) := by
  intro f7 f8 f9 f10 h7 h8 h9 h10
  exact exec_load 𝒱 (c : Thread nD τ) bd E (m := (a9.slice r₀ h₀).squeeze s' hq) (S := a9.view.set) (f := f9) (q := fullShare)
    (pull_next (pull_next (pull_next (pull_next pull_here)))) (setOn_slice_squeeze a9 _) _ rfl
    (h _ ⟨f9, h9, rfl⟩ f7 f8 f9 f10 h7 h8 h9 h10)

/-- A load from a squeezed slice of `a10`, of a value the program does not use. -/
theorem Runs.load10s {s' : Shape} {r₀ : Rect s10} {h₀ : ∀ x, r₀.stride x = 1} {hq : r₀.shape.Squeezes s'} {r : LoadRect s'}
    {hl : ((a10.slice r₀ h₀).squeeze s' hq).view.LoadsAt r} {k : (r.shape.Idx → Val e10) → Prog (TpuEff nD τ sig Val Λ .tc) α}
    (h : ∀ v, Runs defs 𝒱 c bd E a1 a3 a7 a8 a9 a10 X1 X3 Q I7 I8 I9 I10 (k v)) :
    Runs defs 𝒱 c bd E a1 a3 a7 a8 a9 a10 X1 X3 Q I7 I8 I9 I10 (.op (.load ((a10.slice r₀ h₀).squeeze s' hq) r hl) k) := by
  intro f7 f8 f9 f10 h7 h8 h9 h10
  exact exec_load 𝒱 (c : Thread nD τ) bd E (m := (a10.slice r₀ h₀).squeeze s' hq) (S := a10.view.set) (f := f10) (q := fullShare)
    (pull_next (pull_next (pull_next (pull_next pull_last)))) (setOn_slice_squeeze a10 _) _ rfl
    (h _ f7 f8 f9 f10 h7 h8 h9 h10)

/-- A load from `a10` of a value its condition tells. -/
theorem Runs.read10 {r : LoadRect s10} {hl : a10.view.LoadsAt r} {k : (r.shape.Idx → Val e10) → Prog (TpuEff nD τ sig Val Λ .tc) α}
    (v : r.shape.Idx → Val e10) (hv : ∀ f, I10 f → a10.view.readAt Val r f = v)
    (h : Runs defs 𝒱 c bd E a1 a3 a7 a8 a9 a10 X1 X3 Q I7 I8 I9 I10 (k v)) :
    Runs defs 𝒱 c bd E a1 a3 a7 a8 a9 a10 X1 X3 Q I7 I8 I9 I10 (.op (.load a10 r hl) k) :=
  Runs.load10 fun v' ⟨f, hf, e⟩ => by rw [e, hv f hf]; exact h

/-- A load from a squeezed slice of `a9` of a value its condition tells. -/
theorem Runs.read9s {s' : Shape} {r₀ : Rect s9} {h₀ : ∀ x, r₀.stride x = 1} {hq : r₀.shape.Squeezes s'} {r : LoadRect s'}
    {hl : ((a9.slice r₀ h₀).squeeze s' hq).view.LoadsAt r} {k : (r.shape.Idx → Val e9) → Prog (TpuEff nD τ sig Val Λ .tc) α}
    (v : r.shape.Idx → Val e9) (hv : ∀ f, I9 f → ((a9.slice r₀ h₀).squeeze s' hq).view.readAt Val r f = v)
    (h : Runs defs 𝒱 c bd E a1 a3 a7 a8 a9 a10 X1 X3 Q I7 I8 I9 I10 (k v)) :
    Runs defs 𝒱 c bd E a1 a3 a7 a8 a9 a10 X1 X3 Q I7 I8 I9 I10 (.op (.load ((a9.slice r₀ h₀).squeeze s' hq) r hl) k) :=
  Runs.load9s fun v' ⟨f, hf, e⟩ => by rw [e, hv f hf]; exact h

/-! ### Stores -/

/-- A store at the head of a program, the buffer it writes isolated in the context before it and after it. -/
theorem exec_write {P R P' : sProp (MT nD τ sig Unit Val ℕ U ℕ)} {s : Shape} {e : EltTy} (m : Memref sig .tc .vmem s e) {r : Rect s}
    {w : r.shape.Idx → Val e} {Mk : Finset r.shape.Idx} {hx : (m.access r).Stores Mk} {hm : Mk = Finset.univ ∨ ∀ a, r.stride a = 1}
    {k : PUnit → Prog (TpuEff nD τ sig Val Λ .tc) α} (S : Finset (Idx (m.view.loc (c : Thread nD τ)))) (f : Buf Val (m.view.loc (c : Thread nD τ)))
    (hS : (m.access r).setOn Mk ⊆ S) (hP : P ⊣⊢ iprop(R ∗ (m.view.loc (c : Thread nD τ) ↦[S]{fullShare} f)))
    (hP' : P' ⊣⊢ iprop(R ∗ (m.view.loc (c : Thread nD τ) ↦[S]{fullShare} (m.access r).write Val f w Mk)))
    (h : P' ⊢ wp frame (wpE defs 𝒱 (c : Thread nD τ) bd) E (k ⟨⟩) Q) :
    P ⊢ wp frame (wpE defs 𝒱 (c : Thread nD τ) bd) E (.op (.store m r w Mk hx hm) k) Q :=
  exec_frame hP hP' (wp_store 𝒱 (c : Thread nD τ) bd E (Q := Q) (w := w) (hx := hx) (hm := hm) (k := k) (Mk := Mk) (f := f) hS) h

/-- A store to `a7`, the written contents satisfying the new condition. -/
theorem Runs.store7 {J : Cont Val a7 → Prop} {r : Rect s7} {w : r.shape.Idx → Val e7} {Mk : Finset r.shape.Idx}
    {hx : (a7.access r).Stores Mk} {hm : Mk = Finset.univ ∨ ∀ a, r.stride a = 1} {k : PUnit → Prog (TpuEff nD τ sig Val Λ .tc) α}
    (hw : ∀ f, I7 f → J ((a7.access r).write Val f w Mk))
    (h : Runs defs 𝒱 c bd E a1 a3 a7 a8 a9 a10 X1 X3 Q J I8 I9 I10 (k ⟨⟩)) :
    Runs defs 𝒱 c bd E a1 a3 a7 a8 a9 a10 X1 X3 Q I7 I8 I9 I10 (.op (.store a7 r w Mk hx hm) k) := by
  intro f7 f8 f9 f10 h7 h8 h9 h10
  refine exec_write a7 a7.view.set f7 (Memref.setOn_access_subset a7 r Mk) (pull_next (pull_next pull_here)) ?_ (h _ f8 f9 f10 (hw f7 h7) h8 h9 h10)
  exact (pull_next (pull_next pull_here))

/-- A store to `a8`, the written contents satisfying the new condition. -/
theorem Runs.store8 {J : Cont Val a8 → Prop} {r : Rect s8} {w : r.shape.Idx → Val e8} {Mk : Finset r.shape.Idx}
    {hx : (a8.access r).Stores Mk} {hm : Mk = Finset.univ ∨ ∀ a, r.stride a = 1} {k : PUnit → Prog (TpuEff nD τ sig Val Λ .tc) α}
    (hw : ∀ f, I8 f → J ((a8.access r).write Val f w Mk))
    (h : Runs defs 𝒱 c bd E a1 a3 a7 a8 a9 a10 X1 X3 Q I7 J I9 I10 (k ⟨⟩)) :
    Runs defs 𝒱 c bd E a1 a3 a7 a8 a9 a10 X1 X3 Q I7 I8 I9 I10 (.op (.store a8 r w Mk hx hm) k) := by
  intro f7 f8 f9 f10 h7 h8 h9 h10
  refine exec_write a8 a8.view.set f8 (Memref.setOn_access_subset a8 r Mk) (pull_next (pull_next (pull_next pull_here))) ?_ (h f7 _ f9 f10 h7 (hw f8 h8) h9 h10)
  exact (pull_next (pull_next (pull_next pull_here)))

/-- A store to `a9`, the written contents satisfying the new condition. -/
theorem Runs.store9 {J : Cont Val a9 → Prop} {r : Rect s9} {w : r.shape.Idx → Val e9} {Mk : Finset r.shape.Idx}
    {hx : (a9.access r).Stores Mk} {hm : Mk = Finset.univ ∨ ∀ a, r.stride a = 1} {k : PUnit → Prog (TpuEff nD τ sig Val Λ .tc) α}
    (hw : ∀ f, I9 f → J ((a9.access r).write Val f w Mk))
    (h : Runs defs 𝒱 c bd E a1 a3 a7 a8 a9 a10 X1 X3 Q I7 I8 J I10 (k ⟨⟩)) :
    Runs defs 𝒱 c bd E a1 a3 a7 a8 a9 a10 X1 X3 Q I7 I8 I9 I10 (.op (.store a9 r w Mk hx hm) k) := by
  intro f7 f8 f9 f10 h7 h8 h9 h10
  refine exec_write a9 a9.view.set f9 (Memref.setOn_access_subset a9 r Mk) (pull_next (pull_next (pull_next (pull_next pull_here)))) ?_ (h f7 f8 _ f10 h7 h8 (hw f9 h9) h10)
  exact (pull_next (pull_next (pull_next (pull_next pull_here))))

/-- A store to a squeezed slice of `a10`, the written contents satisfying the new condition. -/
theorem Runs.store10s {J : Cont Val a10 → Prop} {s' : Shape} {r₀ : Rect s10} {h₀ : ∀ x, r₀.stride x = 1} {hq : r₀.shape.Squeezes s'}
    {r : Rect s'} {w : r.shape.Idx → Val e10} {Mk : Finset r.shape.Idx} {hx : (((a10.slice r₀ h₀).squeeze s' hq).access r).Stores Mk}
    {hm : Mk = Finset.univ ∨ ∀ a, r.stride a = 1} {k : PUnit → Prog (TpuEff nD τ sig Val Λ .tc) α}
    (hw : ∀ f, I10 f → J ((((a10.slice r₀ h₀).squeeze s' hq).access r).write Val f w Mk))
    (h : Runs defs 𝒱 c bd E a1 a3 a7 a8 a9 a10 X1 X3 Q I7 I8 I9 J (k ⟨⟩)) :
    Runs defs 𝒱 c bd E a1 a3 a7 a8 a9 a10 X1 X3 Q I7 I8 I9 I10 (.op (.store ((a10.slice r₀ h₀).squeeze s' hq) r w Mk hx hm) k) := by
  intro f7 f8 f9 f10 h7 h8 h9 h10
  refine exec_write ((a10.slice r₀ h₀).squeeze s' hq) a10.view.set f10
    ((Memref.setOn_access_subset _ r Mk).trans (by rw [← View.setOn_univ]; exact setOn_slice_squeeze a10 _))
    (pull_next (pull_next (pull_next (pull_next pull_last)))) ?_ (h f7 f8 f9 _ h7 h8 h9 (hw f10 h10))
  exact pull_next (pull_next (pull_next (pull_next pull_last)))

end Cert.Steps

end
-- ==== Proof.KTrip.lean ====
/-
  One trip of the row loop, run at any bit-exact float algebra: from any contents of the buffers it writes, the trip ends, and leaves the inputs as they were.
  The printed body's parts are opened and the memory operations taken one by one with the rules of `Steps` and `KRules`; runs of
  like operations go by `iterate`.
-/
module

public import proofs.«01_k».proof.Proof.Gen.Kernel.Loops
public import proofs.«01_k».proof.Proof.Steps

@[expose] public section

set_option maxRecDepth 65536
set_option maxHeartbeats 20000000

noncomputable section

namespace Cert.Kernel.Hand

open Cert.Kernel Cert.Kernel.Gen Cert.Steps
open Idealize.ShloMosaic Idealize.ShloMosaic.TcCoe Idealize.ShloMosaic.Tactic
open Idealize.SL Idealize.SL.RA Idealize.SL.BI Idealize.ShloMosaic.Rounds
open scoped Idealize.SL.BI
open Idealize.SL.BI.BIBase Idealize.SL.BI.Laws Idealize.SL.ProofMode Idealize.SL.Sem

variable {F : FTy → Type} [BitOps F]

/-- One trip of the row loop runs from any contents of the buffers it writes. -/
theorem trip_runs (c : Dev nD) (i : grid0.Coords) (arg1 : Memref sig .tc .vmem S256x9216 .bf16) (harg1 : arg1.IsWhole) (arg2 : Memref sig .tc .vmem S72x216 .f32) (harg2 : arg2.IsWhole) (arg3 : Memref sig .tc .vmem S256x256 .bf16) (harg3 : arg3.IsWhole)
    (arg4 : Memref sig .tc .vmem S9216x2304 .fp8e4m3) (harg4 : arg4.IsWhole) (arg5 : Memref sig .tc .vmem S1x2304 .f32) (harg5 : arg5.IsWhole) (arg6 : Memref sig .tc .vmem S256x2304 .bf16) (harg6 : arg6.IsWhole)
    (arg7 : Memref sig .tc .vmem S256x9216 .fp8e4m3) (harg7 : arg7.IsWhole) (arg8 : Memref sig .tc .vmem S256x1 .f32) (harg8 : arg8.IsWhole) (arg9 : Memref sig .tc .vmem S8x288x128 .f32) (harg9 : arg9.IsWhole)
    (arg10 : Memref sig .tc .vmem S8x288x128 .f32) (harg10 : arg10.IsWhole)
    (v0 : Vec F S72x216 .f32) (X1 : Cont (Elt F) arg1) (X3 : Cont (Elt F) arg3) (k : Fin k0_t1_loop.trips) :
    Runs (U := UR sig nD τ) (defs₀ (F := F)) Variants.none c none Set.univ arg1 arg3 arg7 arg8 arg9 arg10 X1 X3
      (fun _ => iprop(∃ f7 f8 f9 f10, held (UR sig nD τ) c arg1 arg3 arg7 arg8 arg9 arg10 X1 X3 f7 f8 f9 f10))
      (fun _ => True) (fun _ => True) (fun _ => True) (fun _ => True)
      (k0_t1_body i arg1 harg1 arg2 harg2 arg3 harg3 arg4 harg4 arg5 harg5 arg6 harg6 arg7 harg7 arg8 harg8 arg9 harg9 arg10 harg10 v0 k PUnit.unit) := by
  unfold k0_t1_body
  rw [k0_part153_eq_skeleton, k0_part154_eq_skeleton, k0_part155_eq_skeleton]
  unfold k0_part153_skel k0_part154_skel k0_part155_skel
  simp only [
    k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton, k0_part36_eq_skeleton,
    k0_part37_eq_skeleton, k0_part38_eq_skeleton, k0_part39_eq_skeleton, k0_part40_eq_skeleton, k0_part41_eq_skeleton, k0_part42_eq_skeleton,
    k0_part43_eq_skeleton, k0_part44_eq_skeleton, k0_part45_eq_skeleton, k0_part46_eq_skeleton, k0_part47_eq_skeleton, k0_part48_eq_skeleton,
    k0_part49_eq_skeleton, k0_part50_eq_skeleton, k0_part51_eq_skeleton, k0_part52_eq_skeleton, k0_part53_eq_skeleton, k0_part54_eq_skeleton,
    k0_part55_eq_skeleton, k0_part56_eq_skeleton, k0_part57_eq_skeleton, k0_part58_eq_skeleton, k0_part59_eq_skeleton, k0_part60_eq_skeleton,
    k0_part61_eq_skeleton, k0_part62_eq_skeleton, k0_part63_eq_skeleton, k0_part64_eq_skeleton, k0_part65_eq_skeleton, k0_part66_eq_skeleton,
    k0_part67_eq_skeleton, k0_part68_eq_skeleton, k0_part69_eq_skeleton, k0_part70_eq_skeleton, k0_part71_eq_skeleton, k0_part72_eq_skeleton,
    k0_part73_eq_skeleton, k0_part74_eq_skeleton, k0_part75_eq_skeleton, k0_part76_eq_skeleton, k0_part77_eq_skeleton, k0_part78_eq_skeleton,
    k0_part79_eq_skeleton, k0_part80_eq_skeleton, k0_part81_eq_skeleton, k0_part82_eq_skeleton, k0_part83_eq_skeleton, k0_part84_eq_skeleton,
    k0_part85_eq_skeleton, k0_part86_eq_skeleton, k0_part87_eq_skeleton, k0_part88_eq_skeleton, k0_part89_eq_skeleton, k0_part90_eq_skeleton,
    k0_part91_eq_skeleton, k0_part92_eq_skeleton, k0_part93_eq_skeleton, k0_part94_eq_skeleton, k0_part95_eq_skeleton, k0_part96_eq_skeleton,
    k0_part97_eq_skeleton, k0_part98_eq_skeleton, k0_part99_eq_skeleton, k0_part100_eq_skeleton, k0_part101_eq_skeleton, k0_part102_eq_skeleton,
    k0_part103_eq_skeleton, k0_part104_eq_skeleton, k0_part105_eq_skeleton, k0_part106_eq_skeleton, k0_part107_eq_skeleton, k0_part108_eq_skeleton,
    k0_part109_eq_skeleton, k0_part110_eq_skeleton, k0_part111_eq_skeleton, k0_part112_eq_skeleton, k0_part113_eq_skeleton, k0_part114_eq_skeleton,
    k0_part115_eq_skeleton, k0_part116_eq_skeleton, k0_part117_eq_skeleton, k0_part118_eq_skeleton, k0_part119_eq_skeleton, k0_part120_eq_skeleton,
    k0_part121_eq_skeleton, k0_part122_eq_skeleton, k0_part123_eq_skeleton, k0_part124_eq_skeleton, k0_part125_eq_skeleton, k0_part126_eq_skeleton,
    k0_part127_eq_skeleton, k0_part128_eq_skeleton, k0_part129_eq_skeleton, k0_part130_eq_skeleton, k0_part131_eq_skeleton, k0_part132_eq_skeleton,
    k0_part133_eq_skeleton, k0_part134_eq_skeleton, k0_part135_eq_skeleton, k0_part136_eq_skeleton, k0_part137_eq_skeleton, k0_part138_eq_skeleton,
    k0_part139_eq_skeleton, k0_part140_eq_skeleton, k0_part141_eq_skeleton, k0_part142_eq_skeleton, k0_part143_eq_skeleton, k0_part144_eq_skeleton,
    k0_part145_eq_skeleton, k0_part146_eq_skeleton, k0_part147_eq_skeleton, k0_part148_eq_skeleton, k0_part149_eq_skeleton, k0_part150_eq_skeleton,
    k0_part151_eq_skeleton, k0_part152_eq_skeleton]
  -- the 36 products of 32 rows of the tile with the matrix, each stored in eight pieces
  iterate 36
    refine Runs.load1 _ rfl ?_
    refine Runs.load3 _ rfl ?_
    iterate 8
      refine Runs.load9 fun _ _ => ?_
      refine Runs.store9 (J := fun _ => True) (fun _ _ => trivial) ?_
  -- the 16 products of the mix matrix with two strided pieces, each stored in two strided pieces
  iterate 16
    refine Runs.load9s fun _ _ => ?_
    refine Runs.load9s fun _ _ => ?_
    iterate 2
      refine Runs.load10s fun _ => ?_
      refine Runs.store10s (J := fun _ => True) (fun _ _ => trivial) ?_
  -- the row maxima and the scales
  iterate 288
    refine Runs.load10 fun _ _ => ?_
  refine Runs.load8 fun _ => ?_
  refine Runs.store8 (J := fun _ => True) (fun _ _ => trivial) ?_
  -- the codes
  iterate 72
    iterate 4
      refine Runs.load10 fun _ _ => ?_
    refine Runs.load7 fun _ => ?_
    refine Runs.store7 (J := fun _ => True) (fun _ _ => trivial) ?_
  refine Runs.ret fun f7 f8 f9 f10 _ _ _ _ => ?_
  iintro H
  iexists f7, f8, f9, f10
  iexact H

end Cert.Kernel.Hand

end
-- ==== Proof.KFrame.lean ====
/-
  The kernel's frame: its body runs from the input blocks and any contents of the outputs and the scratch buffers — the row
  loop by one trip (KTrip.lean), the column loop by its generated invariant —, so the program runs and its arguments end unchanged.
-/
module

public import proofs.«01_k».proof.Proof.Gen.Kernel.Loops
public import proofs.«01_k».proof.Proof.Gen.Kernel.Frame
public import proofs.«01_k».proof.Proof.KTrip

@[expose] public section

set_option maxRecDepth 65536
set_option maxHeartbeats 20000000

noncomputable section

namespace Cert.Kernel.Hand

open Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

/-- The kernel's body runs from any contents of the outputs and the scratch buffers, and leaves the inputs as they were. -/
theorem sound_kernel (c : Dev nD) (i : grid0.Coords) (arg1 : Memref sig .tc .vmem S256x9216 .bf16) (harg1 : arg1.IsWhole) (arg2 : Memref sig .tc .vmem S72x216 .f32) (harg2 : arg2.IsWhole)
    (arg3 : Memref sig .tc .vmem S256x256 .bf16) (harg3 : arg3.IsWhole) (arg4 : Memref sig .tc .vmem S9216x2304 .fp8e4m3) (harg4 : arg4.IsWhole)
    (arg5 : Memref sig .tc .vmem S1x2304 .f32) (harg5 : arg5.IsWhole) (arg6 : Memref sig .tc .vmem S256x2304 .bf16) (harg6 : arg6.IsWhole)
    (arg7 : Memref sig .tc .vmem S256x9216 .fp8e4m3) (harg7 : arg7.IsWhole) (arg8 : Memref sig .tc .vmem S256x1 .f32) (harg8 : arg8.IsWhole)
    (arg9 : Memref sig .tc .vmem S8x288x128 .f32) (harg9 : arg9.IsWhole) (arg10 : Memref sig .tc .vmem S8x288x128 .f32) (harg10 : arg10.IsWhole)
    (x1 : Vec F S256x9216 .bf16) (x2 : Vec F S72x216 .f32) (x3 : Vec F S256x256 .bf16) (x4 : Vec F S9216x2304 .fp8e4m3) (x5 : Vec F S1x2304 .f32)
    (K : PUnit → sProp (MT nD τ sig Unit (Elt F) ℕ (UR sig nD τ) ℕ)) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ f : Cont (Elt F) arg9, arg9.view.loc (c : Thread nD τ) ↦[arg9.view.set]{fullShare} f) ∗ (∃ f : Cont (Elt F) arg10, arg10.view.loc (c : Thread nD τ) ↦[arg10.view.set]{fullShare} f)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d)
            ∗ (∃ f : Cont (Elt F) arg9, arg9.view.loc (c : Thread nD τ) ↦[arg9.view.set]{fullShare} f) ∗ (∃ f : Cont (Elt F) arg10, arg10.view.loc (c : Thread nD τ) ↦[arg10.view.set]{fullShare} f)) -∗ K ⟨⟩))
      ⊢ wp frame (wpE (defs₀ (F := F)) Variants.none c none) Set.univ (cc0_hadamard_fp8_down_proj i arg1 harg1 arg2 harg2 arg3 harg3 arg4 harg4 arg5 harg5 arg6 harg6 arg7 harg7 arg8 harg8 arg9 harg9 arg10 harg10) K := by
  simp only [cc0_hadamard_fp8_down_proj_eq_skeleton]; unfold cc0_hadamard_fp8_down_proj_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩,
    ⟨%d8, %f8, -, H8⟩, ⟨%f9, H9⟩, ⟨%f10, H10⟩, Hk⟩
  subst hf1 hf2 hf3 hf4 hf5
  sl_exec
  sl_for (fun _ _ => iprop(∃ g7 g8 g9 g10, held (UR sig nD τ) c arg1 arg3 arg7 arg8 arg9 arg10 f1 f3 g7 g8 g9 g10)) $$ [H1 H3 H7 H8 H9 H10]
  case region =>
    intro k _
    iintro ⟨%g7, %g8, %g9, %g10, H⟩
    iapply (trip_runs c i arg1 harg1 arg2 harg2 arg3 harg3 arg4 harg4 arg5 harg5 arg6 harg6 arg7 harg7 arg8 harg8 arg9 harg9 arg10 harg10 _ f1 f3 k g7 g8 g9 g10 trivial trivial trivial trivial)
    iexact H
  · iexists f7, f8, f9, f10
    isplitl [H1]; · iexact H1
    isplitl [H3]; · iexact H3
    isplitl [H7]; · iexact H7
    isplitl [H8]; · iexact H8
    isplitl [H9]; · iexact H9
    iexact H10
  iintro %_ ⟨%g7, %g8, %g9, %g10, ⟨H1, H3, H7, H8, H9, H10⟩⟩
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _, _; isplitr
    swap; · iexact H6
    ipureintro; rfl
  isplitl [H7]
  · iexists _, _; isplitr
    swap; · iexact H7
    ipureintro; rfl
  isplitl [H8]
  · iexists _, _; isplitr
    swap; · iexact H8
    ipureintro; rfl
  isplitl [H9]; · iexists _; iexact H9
  iexists _; iexact H10

/-! ## The pipeline's proof data -/

variable (m : (ℓ : Loc nD τ sig) → Buf (Elt F) ℓ) (ρ : Dev nD → PrngReg)

/-- The outputs, whose contents the frame does not state. -/
def fgt : Fin cfg0.W → Bool := fun w => decide (5 ≤ w.val)

/-- Each input's buffer holds its block at every point; of the outputs' buffers nothing is said (`fgt`). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, the windows one by one, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X)
    ∗ (∃ X, owns (c : Thread nD τ) (st0_6 t) fullShare X)
    ∗ (∃ X, owns (c : Thread nD τ) (st0_7 t) fullShare X))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X)
    ∗ (∃ X, owns (c : Thread nD τ) (st0_6 t) fullShare X)
    ∗ (∃ X, owns (c : Thread nD τ) (st0_7 t) fullShare X))

/-- The body at any point, its scratch buffers taken out of the invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4]
  unfold Pipeline.ΦA
  rw [scopedRest0_eq]
  simp only [← View.set_whole cc0_scratch0, ← View.set_whole cc0_scratch1]
  iintro ⟨⟨⟨⟨%f9, H9⟩, ⟨%f10, H10⟩⟩, Hρ⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c (grid0.coords t) _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H9]; · iexists f9; iexact H9
  isplitl [H10]; · iexists f10; iexact H10
  iintro ⟨H0, H1, H2, H3, H4, H5, H6, H7, H9, H10⟩
  isplitl [H9 H10 Hρ]
  · isplitl [H9 H10]
    · isplitl [H9]; · iexact H9
      iexact H10
    iexact Hρ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The run and the frame -/

set_option backward.isDefEq.respectTransparency.types false in
/-- The program runs, its arrays as the library says and every semaphore counter at zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs, its arguments end unchanged, and every semaphore counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 3 rfl).trans ((A_eq m c 3).trans (V_main_arg2 m c)),
      ((h.1 c).2 main_arg3 (Pipeline.mem_restRefs_of main_arg3 (by decide) (by decide))).trans (V_main_arg3 m c)⟩, h.2⟩) (run_main_quiescent m ρ)

end Cert.Kernel.Hand

end
-- ==== Proof.KVal.lean ====
/-
  The values one trip of the row loop computes.

  A trip `t` takes rows 32t … 32t+31 of the tile `x`. It multiplies each of the 36 column blocks of 256 by the matrix `hh`
  (`U`), keeps the product in 8-row pieces (`G9`), applies the mix matrix to pairs of strided pieces (`M`, `G10`), takes for each
  8 rows the largest magnitude (`amax`), finds the power of two (`inv`, `scl`), and writes scales (`scaleTile`) and codes
  (`codeTile`). The definitions hold at any float algebra.
-/
module

public import proofs.«01_k».proof.Proof.Gen.KernelIdeal.Loops
public import Idealize.ShloMosaic.Lib.WritesUnit
public import Idealize.ShloMosaic.Lib.ValueLayout
public import Idealize.ShloMosaic.Lib.Pipeline.Value

@[expose] public section

noncomputable section

namespace Cert.KernelIdeal.Hand

open Cert.KernelIdeal.Gen
open Idealize.ShloMosaic Idealize.ShloMosaic.TcCoe Idealize.ShloMosaic.Tactic Idealize.ShloMosaic.ValueIdx

/-! ### Reading at natural-number coordinates -/

/-- The element at row `r`, column `c`. -/
def rd2 {a b : ℕ} [NeZero a] [NeZero b] {α : Type} (X : (⟨2, ![a, b]⟩ : Shape).Idx → α) (r c : ℕ) : α :=
  X (ix2 (Fin.ofNat a r) (Fin.ofNat b c))

theorem rd2_eq {a b : ℕ} [NeZero a] [NeZero b] {α : Type} (X : (⟨2, ![a, b]⟩ : Shape).Idx → α) (y : (⟨2, ![a, b]⟩ : Shape).Idx)
    {r c : ℕ} (h0 : (y 0).val = r) (h1 : (y 1).val = c) : X y = rd2 X r c := by
  subst h0 h1
  unfold rd2
  congr 1
  funext d
  refine Fin.ext ?_
  match d with
  | ⟨0, _⟩ => exact (Nat.mod_eq_of_lt (y 0).isLt).symm
  | ⟨1, _⟩ => exact (Nat.mod_eq_of_lt (y 1).isLt).symm

variable {F : FTy → Type} [FloatOps F]

section Values

variable (x : Vec F S256x9216 .bf16) (hh : Vec F S256x256 .bf16) (m1 m2 m3 : FVec F S72x216 .bf16) (t : ℕ)

/-- The 32 × 256 block of the tile whose corner is `o`. -/
def xt (o : Fin 2 → ℕ) : Vec F S32x256 .bf16 := fun i => rd2 x (o 0 + (i 0).val) (o 1 + (i 1).val)

/-- The block of columns 256k … of the trip's rows, times the matrix. -/
def U (k : ℕ) : FVec F S32x256 .f32 := k0_pay9 (xt x ![32 * t, 256 * k]) hh

/-- What the first scratch buffer holds at `(y0, y1, y2)` after the trip's products. -/
def G9 (y0 y1 y2 : ℕ) : F .f32 := rd2 (U x hh t (y1 / 8)) (8 * (y0 / 2) + y1 % 8) (128 * (y0 % 2) + y2)

/-- Every fourth row of its piece `b`, from row `r`. -/
def U9 (b r : ℕ) : Vec F S72x128 .f32 := fun i => G9 x hh t b (r + 4 * (i 0).val) (i 1).val

/-- The mix matrix times the two pieces of 8-row group `g`, at residue `r`. -/
def M (g r : ℕ) : FVec F S72x256 .f32 := k0_pay365 m1 m2 m3 (U9 x hh t (2 * g) r) (U9 x hh t (2 * g + 1) r)

/-- What the second scratch buffer holds at `(y0, y1, y2)` after the trip's mixes. -/
def G10 (y0 y1 y2 : ℕ) : F .f32 :=
  FloatOps.mulf (rd2 (M x hh m1 m2 m3 t (y0 / 2) (y1 % 4)) (y1 / 4) (128 * (y0 % 2) + y2)) (Scalar.ofBits .f32 0x3C2AAAAB#32)

/-- The 8 × 128 piece of the second scratch buffer at `(b, a, 0)`. -/
def Y10 (b a : ℕ) : Vec F S1x8x128 .f32 := fun i => G10 x hh m1 m2 m3 t b (a + (i 1).val) (i 2).val

/-- The largest magnitudes of the first `n` pieces of 8-row group `g`, lane by lane. -/
def maxAcc (g : ℕ) : ℕ → FVec F S8x128 .f32
  | 0 => broadcast S8x128 (Scalar.ofBits .f32 0x00000000#32)
  | n + 1 => maximumf (maxAcc g n)
      (absf (shapeCast S8x128 (Y10 x hh m1 m2 m3 t (2 * g + n / 36) (8 * (n % 36))) shapeCasts_S1x8x128_S8x128))

/-- The largest magnitude of each row of group `g`, times the single-precision 1/448. -/
def amax (g : ℕ) : FVec F S8x1 .f32 :=
  mulf (shapeCast S8x1 (multiReduction .maximumf [1] S8 (maxAcc x hh m1 m2 m3 t g 72) 0xFF800000#32 reduces_S8x128_S8 (.inl rfl) rfl)
    shapeCasts_S8_S8x1) (broadcast S8x1 (Scalar.ofBits .f32 0x3B124925#32))

/-- One step of the search: `n + b` where the float with exponent field `n + b` is at most `v`, else `n`. -/
def stepN (b : BitVec 32) (v : FVec F S8x1 .f32) (n : IVec S8x1 32) : IVec S8x1 32 :=
  select (cmpf .olt v (bitcastToFloat .f32 (shli (addi n (broadcast S8x1 b)) (broadcast S8x1 23#32)))) n (addi n (broadcast S8x1 b))

/-- The exponent field of `v`, by eight steps. -/
def expN (v : FVec F S8x1 .f32) : IVec S8x1 32 :=
  stepN 1#32 v (stepN 2#32 v (stepN 4#32 v (stepN 8#32 v (stepN 16#32 v (stepN 32#32 v (stepN 64#32 v (stepN 128#32 v (broadcast S8x1 0#32))))))))

/-- The exponent of the scale: 0 at a zero row. -/
def expE (v : FVec F S8x1 .f32) : IVec S8x1 32 :=
  select (cmpf .oeq v (broadcast S8x1 (Scalar.ofBits .f32 0x00000000#32))) (broadcast S8x1 0#32) (subi (expN v) (broadcast S8x1 126#32))

/-- The reciprocal of the scale of a row with bound `v`. -/
def invOf (v : FVec F S8x1 .f32) : FVec F S8x1 .f32 :=
  bitcastToFloat .f32 (shli (subi (broadcast S8x1 127#32) (expE v)) (broadcast S8x1 23#32))

/-- The scale of a row with bound `v`. -/
def sclOf (v : FVec F S8x1 .f32) : FVec F S8x1 .f32 :=
  bitcastToFloat .f32 (shli (addi (broadcast S8x1 127#32) (expE v)) (broadcast S8x1 23#32))

def inv (g : ℕ) : FVec F S8x1 .f32 := invOf (amax x hh m1 m2 m3 t g)
def scl (g : ℕ) : FVec F S8x1 .f32 := sclOf (amax x hh m1 m2 m3 t g)

/-- The 32 scales of the trip. -/
def scaleTile : FVec F S32x1 .f32 :=
  concatenate S32x1 0 [⟨S8x1, scl x hh m1 m2 m3 t 0⟩, ⟨S8x1, scl x hh m1 m2 m3 t 1⟩, ⟨S8x1, scl x hh m1 m2 m3 t 2⟩,
    ⟨S8x1, scl x hh m1 m2 m3 t 3⟩] concatenates_S8x1_S8x1_S8x1_S8x1_S32x1_d0

/-- The trip's codes of columns 128q … 128q+127. -/
def codeTile (q : ℕ) : FVec F S32x128 .fp8e4m3 :=
  k0_pay510 (inv x hh m1 m2 m3 t 0) (inv x hh m1 m2 m3 t 1) (inv x hh m1 m2 m3 t 2) (inv x hh m1 m2 m3 t 3)
    (Y10 x hh m1 m2 m3 t (q % 2) (8 * (q / 2))) (Y10 x hh m1 m2 m3 t (2 + q % 2) (8 * (q / 2)))
    (Y10 x hh m1 m2 m3 t (4 + q % 2) (8 * (q / 2))) (Y10 x hh m1 m2 m3 t (6 + q % 2) (8 * (q / 2)))

end Values

/-! ### Pieces of a product -/

/-- An 8 × 128 block of a 32 × 256 product, stored as piece `j` at row `o`, by coordinates. -/
theorem piece9 {x : Vec F S256x9216 .bf16} {hh : Vec F S256x256 .bf16} {t j o : ℕ} {m : FVec F S32x256 .f32} {o0 o1 : ℕ}
    (ho : o % 8 = 0) (hm : m = U x hh t (o / 8)) (hs : S32x256.Slices ![o0, o1] S8x128) (hc : S8x128.ShapeCasts S1x8x128)
    (h0 : o0 = 8 * (j / 2)) (h1 : o1 = 128 * (j % 2)) :
    shapeCast S1x8x128 (extractStridedSlice S8x128 ![o0, o1] m hs) hc = fun i => G9 x hh t j (o + (i 1).val) (i 2).val := by
  subst hm h0 h1
  funext i
  obtain ⟨u, a, b, rfl⟩ : ∃ u a b, i = ix3 (n0 := 1) (n1 := 8) (n2 := 128) u a b :=
    ⟨i 0, i 1, i 2, by funext d; match d with | ⟨0, _⟩ => rfl | ⟨1, _⟩ => rfl | ⟨2, _⟩ => rfl⟩
  have ha : a.val < 8 := a.isLt
  rw [shapeCast_ab_1ab_apply]
  refine (rd2_eq (a := 32) (b := 256) _ _ rfl rfl).trans ?_
  show rd2 (U x hh t (o / 8)) (8 * (j / 2) + a.val) (128 * (j % 2) + b.val) = rd2 (U x hh t ((o + a.val) / 8)) (8 * (j / 2) + (o + a.val) % 8) (128 * (j % 2) + b.val)
  rw [show (o + a.val) / 8 = o / 8 by omega, show (o + a.val) % 8 = a.val by omega]

/-- A half of a 72 × 256 product times a constant, stored in every fourth row of piece `b` from row `r`, by coordinates. -/
theorem piece10 {x : Vec F S256x9216 .bf16} {hh : Vec F S256x256 .bf16} {m1 m2 m3 : FVec F S72x216 .bf16} {t b r : ℕ} {m : FVec F S72x256 .f32}
    {o1 : ℕ} (hr : r < 4) (hm : m = M x hh m1 m2 m3 t (b / 2) r) (hs : S72x256.Slices ![0, o1] S72x128) (hc : S72x128.ShapeCasts S72x128)
    (h1 : o1 = 128 * (b % 2)) :
    shapeCast S72x128 (mulf (extractStridedSlice S72x128 ![0, o1] m hs) (broadcast S72x128 (Scalar.ofBits .f32 0x3C2AAAAB#32))) hc
      = fun i => G10 x hh m1 m2 m3 t b (r + 4 * (i 0).val) (i 1).val := by
  subst hm h1
  funext i
  have h : Shape.reshapeEquiv hc i = i := Shape.reshapeEquiv_eq_of_rowMajor _ rfl
  show FloatOps.mulf (M x hh m1 m2 m3 t (b / 2) r _) _ = _
  rw [h]
  refine congrArg (FloatOps.mulf · _) ((rd2_eq (a := 72) (b := 256) (r := (i 0).val) (c := 128 * (b % 2) + (i 1).val) _ _ (Nat.zero_add _) rfl).trans ?_)
  rw [show (r + 4 * (i 0).val) % 4 = r by omega, show (r + 4 * (i 0).val) / 4 = (i 0).val by omega]

/-! ### The buffers' conditions -/

section Conds

variable {sig : RefSig} {Val : EltTy → Type} {e : EltTy}

/-- The first scratch buffer, read at the places stored so far (`n` pieces in order), is `G`. -/
def A9 (a : Memref sig .tc .vmem S8x288x128 e) (G : ℕ → ℕ → ℕ → Val e) (n : ℕ) (f : BufTy.Contents Val a.view.ty) : Prop :=
  ∀ y : S8x288x128.Idx, (y 1).val / 8 * 8 + (y 0).val < n → a.view.read Val f y = G (y 0).val (y 1).val (y 2).val

theorem A9.store {a : Memref sig .tc .vmem S8x288x128 e} {G : ℕ → ℕ → ℕ → Val e} {n j o : ℕ}
    {inb : ∀ d, (![j, o, 0] : Fin 3 → ℕ) d + S1x8x128.size d ≤ S8x288x128.size d}
    {w : (Rect.unit (s := S8x288x128) ![j, o, 0] S1x8x128.size inb).shape.Idx → Val e} (hn : n = o / 8 * 8 + j) (ho : o % 8 = 0)
    (hw : w = fun i => G j (o + (i 1).val) (i 2).val) {f : BufTy.Contents Val a.view.ty} (hf : A9 a G n f) :
    A9 a G (o / 8 * 8 + j + 1) ((a.access (Rect.unit (s := S8x288x128) ![j, o, 0] S1x8x128.size inb)).write Val f w Finset.univ) := by
  intro y hy
  subst hn hw
  have hj : j + 1 ≤ 8 := inb 0
  have h0 : (y 0).val < 8 := (y 0).isLt
  by_cases hm : (y 0).val = j ∧ (y 1).val / 8 = o / 8
  · obtain ⟨hm0, hm1⟩ := hm
    have key := View.read_writes_cons_unit_of_mem a.view f inb (fun i => G j (o + (i 1).val) (i 2).val) [] y
      (ix3 (n0 := 1) (n1 := 8) (n2 := 128) 0 ⟨(y 1).val % 8, Nat.mod_lt _ (by decide)⟩ (y 2)) rfl (fun d => by
        match d with
        | ⟨0, _⟩ => show (y 0).val = j + 0; omega
        | ⟨1, _⟩ => show (y 1).val = o + (y 1).val % 8; omega
        | ⟨2, _⟩ => show (y 2).val = 0 + (y 2).val; omega)
    refine key.trans ?_
    show G j (o + (y 1).val % 8) (y 2).val = _
    rw [hm0]
    congr 1
    omega
  · have key : ∀ d : Fin 3, ((y d).val < (![j, o, 0] : Fin 3 → ℕ) d ∨ (![j, o, 0] : Fin 3 → ℕ) d + S1x8x128.size d ≤ (y d).val) →
        a.view.read Val ((a.access (Rect.unit (s := S8x288x128) ![j, o, 0] S1x8x128.size inb)).write Val f
          (fun i => G j (o + (i 1).val) (i 2).val) Finset.univ) y = a.view.read Val f y := fun d hd =>
      View.read_writes_cons_unit_of_not_mem a.view f inb (fun i => G j (o + (i 1).val) (i 2).val) [] y rfl d hd
    have hd : ((y 0).val < j ∨ j + 1 ≤ (y 0).val) ∨ ((y 1).val < o ∨ o + 8 ≤ (y 1).val) := by omega
    refine (hd.elim (key 0) (key 1)).trans (hf y (by omega))

/-- Where piece `b` of a scratch buffer, its unit axis dropped, places an index. -/
theorem piece_emb {b : ℕ} (inb₀ : ∀ d, (![b, 0, 0] : Fin 3 → ℕ) d + S1x288x128.size d ≤ S8x288x128.size d)
    (hn : S288x128.numel = (Rect.unit (s := S8x288x128) ![b, 0, 0] S1x288x128.size inb₀).shape.numel) (z : S288x128.Idx) :
    (Rect.unit (s := S8x288x128) ![b, 0, 0] S1x288x128.size inb₀).emb (Shape.reshapeEquiv hn z)
      = ix3 (n0 := 8) (n1 := 288) (n2 := 128) ⟨b, inb₀ 0⟩ (z 0) (z 1) := by
  have h : Shape.reshapeEquiv hn z = ix3 (n0 := 1) (n1 := 288) (n2 := 128) ⟨0, Nat.one_pos⟩ (z 0) (z 1) :=
    (congrArg (Shape.reshapeEquiv hn) (show z = ix2 (n0 := 288) (n1 := 128) (z 0) (z 1) by funext d; match d with | ⟨0, _⟩ => rfl | ⟨1, _⟩ => rfl)).trans (reshapeEquiv_ix2_1ab hn (z 0) (z 1))
  rw [h]
  funext d
  refine Fin.ext ?_
  match d with
  | ⟨0, _⟩ => show b + 1 * 0 = b; omega
  | ⟨1, _⟩ => show 0 + 1 * (z 0).val = (z 0).val; omega
  | ⟨2, _⟩ => show 0 + 1 * (z 1).val = (z 1).val; omega

/-- The second scratch buffer, likewise, its pieces strided. -/
def A10 (a : Memref sig .tc .vmem S8x288x128 e) (G : ℕ → ℕ → ℕ → Val e) (n : ℕ) (f : BufTy.Contents Val a.view.ty) : Prop :=
  ∀ y : S8x288x128.Idx, (y 0).val / 2 * 8 + (y 1).val % 4 * 2 + (y 0).val % 2 < n →
    a.view.read Val f y = G (y 0).val (y 1).val (y 2).val

theorem A10.store {a : Memref sig .tc .vmem S8x288x128 e} {G : ℕ → ℕ → ℕ → Val e} {n b r : ℕ}
    {inb₀ : ∀ d, (![b, 0, 0] : Fin 3 → ℕ) d + S1x288x128.size d ≤ S8x288x128.size d} {h₀ : ∀ x, (Rect.unit (s := S8x288x128) ![b, 0, 0] S1x288x128.size inb₀).stride x = 1}
    {hq : (Rect.unit (s := S8x288x128) ![b, 0, 0] S1x288x128.size inb₀).shape.Squeezes S288x128} {inb hst}
    {w : S72x128.Idx → Val e} (hr : r < 4) (hn : n = b / 2 * 8 + r * 2 + b % 2)
    (hw : w = fun i => G b (r + 4 * (i 0).val) (i 1).val) {f : BufTy.Contents Val a.view.ty} (hf : A10 a G n f) :
    A10 a G (b / 2 * 8 + r * 2 + b % 2 + 1) (View.write Val ((Memref.squeeze (a.slice (Rect.unit (s := S8x288x128) ![b, 0, 0] S1x288x128.size inb₀) h₀) S288x128 hq).access
      ⟨(⟨![r, 0], S72x128.size, ![4, 1], inb⟩ : LoadRect S288x128), hst⟩) f w Finset.univ) := by
  intro y hy
  subst hn hw
  let rr : Rect S288x128 := ⟨(⟨![r, 0], S72x128.size, ![4, 1], inb⟩ : LoadRect S288x128), hst⟩
  have hb : b < 8 := inb₀ 0
  -- the element of the buffer that position `i` of the piece names
  have hemb : ∀ i : S72x128.Idx, ∀ z : S8x288x128.Idx, (z 0).val = b → (z 1).val = r + 4 * (i 0).val → (z 2).val = (i 1).val →
      (Rect.unit (s := S8x288x128) ![b, 0, 0] S1x288x128.size inb₀).emb (Shape.reshapeEquiv hq.numel_eq (rr.emb i)) = z := by
    intro i z h0 h1 h2
    rw [piece_emb]
    funext d
    refine Fin.ext ?_
    match d with
    | ⟨0, _⟩ => exact h0.symm
    | ⟨1, _⟩ => exact h1.symm
    | ⟨2, _⟩ => show 0 + 1 * (i 1).val = (z 2).val; omega
  by_cases hm : (y 0).val = b ∧ (y 1).val % 4 = r
  · obtain ⟨hm0, hm1⟩ := hm
    have h1 : (y 1).val < 288 := (y 1).isLt
    have hz := hemb (ix2 (n0 := 72) (n1 := 128) ⟨(y 1).val / 4, by omega⟩ (y 2)) y hm0 (by show _ = r + 4 * ((y 1).val / 4); omega) rfl
    have : a.view.read Val (View.write Val ((Memref.squeeze (a.slice (Rect.unit (s := S8x288x128) ![b, 0, 0] S1x288x128.size inb₀) h₀) S288x128 hq).access rr) f
        (fun i => G b (r + 4 * (i 0).val) (i 1).val) Finset.univ) ((Rect.unit (s := S8x288x128) ![b, 0, 0] S1x288x128.size inb₀).emb (Shape.reshapeEquiv hq.numel_eq (rr.emb (ix2 (n0 := 72) (n1 := 128) ⟨(y 1).val / 4, by omega⟩ (y 2)))))
        = G b (r + 4 * ((y 1).val / 4)) (y 2).val := by
      exact congrFun (View.read_write_univ (v := (Memref.squeeze (a.slice (Rect.unit (s := S8x288x128) ![b, 0, 0] S1x288x128.size inb₀) h₀) S288x128 hq).access rr) (Val := Val) f
        (fun i => G b (r + 4 * (i 0).val) (i 1).val)) (ix2 (n0 := 72) (n1 := 128) ⟨(y 1).val / 4, by omega⟩ (y 2))
    rw [hz] at this
    refine this.trans ?_
    rw [hm0]
    congr 1
    omega
  · have : a.view.read Val (View.write Val ((Memref.squeeze (a.slice (Rect.unit (s := S8x288x128) ![b, 0, 0] S1x288x128.size inb₀) h₀) S288x128 hq).access rr) f
        (fun i => G b (r + 4 * (i 0).val) (i 1).val) Finset.univ) y = a.view.read Val f y := by
      rw [View.read_apply, View.read_apply, View.write_of_not_mem]
      intro hmem
      obtain ⟨i, -, hi⟩ := Finset.mem_map.mp hmem
      have hi' : (Rect.unit (s := S8x288x128) ![b, 0, 0] S1x288x128.size inb₀).emb (Shape.reshapeEquiv hq.numel_eq (rr.emb i)) = y := a.view.emb.injective hi
      have hi0 : (i 0).val < 72 := (i 0).isLt
      have h2 := hemb i (ix3 (n0 := 8) (n1 := 288) (n2 := 128) ⟨b, hb⟩ ⟨r + 4 * (i 0).val, by omega⟩ (i 1)) rfl rfl rfl
      rw [h2] at hi'
      refine hm ⟨(congrArg (fun z : S8x288x128.Idx => (z 0).val) hi').symm, ?_⟩
      have h1 : r + 4 * (i 0).val = (y 1).val := congrArg (fun z : S8x288x128.Idx => (z 1).val) hi'
      omega
    refine this.trans (hf y ?_)
    have : (y 0).val < 8 := (y 0).isLt
    omega

/-- The codes: rows of earlier trips, and of this trip the first `n` blocks of 128 columns. -/
def A7 (a : Memref sig .tc .vmem S256x9216 e) (Q : ℕ → ℕ → S32x128.Idx → Val e) (t n : ℕ) (f : BufTy.Contents Val a.view.ty) : Prop :=
  ∀ y : S256x9216.Idx, (y 0).val / 32 < t ∨ ((y 0).val / 32 = t ∧ (y 1).val / 128 < n) →
    a.view.read Val f y = rd2 (Q ((y 0).val / 32) ((y 1).val / 128)) ((y 0).val % 32) ((y 1).val % 128)

theorem A7.store {a : Memref sig .tc .vmem S256x9216 e} {Q : ℕ → ℕ → S32x128.Idx → Val e} {t n o : ℕ} {off : Fin 2 → ℕ} [co : ClosedOff off]
    {inb : ∀ d, off d + S32x128.size d ≤ S256x9216.size d}
    {w : (Rect.unit (s := S256x9216) off S32x128.size inb).shape.Idx → Val e} (hoff : co.form = ![32 * t, o]) (hn : n = o / 128) (ho : o % 128 = 0)
    (hw : w = Q t (o / 128)) {f : BufTy.Contents Val a.view.ty} (hf : A7 a Q t n f) :
    A7 a Q t (o / 128 + 1) ((a.access (Rect.unit (s := S256x9216) off S32x128.size inb)).write Val f w Finset.univ) := by
  intro y hy
  subst hn hw
  have heq : off = ![32 * t, o] := co.eq.trans hoff
  by_cases hm : (y 0).val / 32 = t ∧ (y 1).val / 128 = o / 128
  · obtain ⟨hm0, hm1⟩ := hm
    have key := View.read_writes_cons_unit_of_mem a.view f inb (Q t (o / 128)) [] y
      (ix2 (n0 := 32) (n1 := 128) ⟨(y 0).val % 32, Nat.mod_lt _ (by decide)⟩ ⟨(y 1).val % 128, Nat.mod_lt _ (by decide)⟩) heq (fun d => by
        match d with
        | ⟨0, _⟩ => show (y 0).val = 32 * t + (y 0).val % 32; omega
        | ⟨1, _⟩ => show (y 1).val = o + (y 1).val % 128; omega)
    refine key.trans ?_
    rw [hm0, hm1]
    exact rd2_eq (a := 32) (b := 128) _ _ rfl rfl
  · have key : ∀ d : Fin 2, ((y d).val < (![32 * t, o] : Fin 2 → ℕ) d ∨ (![32 * t, o] : Fin 2 → ℕ) d + S32x128.size d ≤ (y d).val) →
        a.view.read Val ((a.access (Rect.unit (s := S256x9216) off S32x128.size inb)).write Val f (Q t (o / 128)) Finset.univ) y = a.view.read Val f y := fun d hd =>
      View.read_writes_cons_unit_of_not_mem a.view f inb (Q t (o / 128)) [] y heq d hd
    have hd : ((y 0).val < 32 * t ∨ 32 * t + 32 ≤ (y 0).val) ∨ ((y 1).val < o ∨ o + 128 ≤ (y 1).val) := by omega
    refine (hd.elim (key 0) (key 1)).trans (hf y (by omega))

/-- The scales: the rows of the first `n` trips. -/
def A8 (a : Memref sig .tc .vmem S256x1 e) (Q : ℕ → S32x1.Idx → Val e) (n : ℕ) (f : BufTy.Contents Val a.view.ty) : Prop :=
  ∀ y : S256x1.Idx, (y 0).val / 32 < n → a.view.read Val f y = rd2 (Q ((y 0).val / 32)) ((y 0).val % 32) 0

theorem A8.store {a : Memref sig .tc .vmem S256x1 e} {Q : ℕ → S32x1.Idx → Val e} {t : ℕ} {off : Fin 2 → ℕ} [co : ClosedOff off]
    {inb : ∀ d, off d + S32x1.size d ≤ S256x1.size d}
    {w : (Rect.unit (s := S256x1) off S32x1.size inb).shape.Idx → Val e} (hoff : co.form = ![32 * t, 0])
    (hw : w = Q t) {f : BufTy.Contents Val a.view.ty} (hf : A8 a Q t f) :
    A8 a Q (t + 1) ((a.access (Rect.unit (s := S256x1) off S32x1.size inb)).write Val f w Finset.univ) := by
  intro y hy
  subst hw
  have heq : off = ![32 * t, 0] := co.eq.trans hoff
  have hy1 : (y 1).val < 1 := (y 1).isLt
  by_cases hm : (y 0).val / 32 = t
  · have key := View.read_writes_cons_unit_of_mem a.view f inb (Q t) [] y
      (ix2 (n0 := 32) (n1 := 1) ⟨(y 0).val % 32, Nat.mod_lt _ (by decide)⟩ 0) heq (fun d => by
        match d with
        | ⟨0, _⟩ => show (y 0).val = 32 * t + (y 0).val % 32; omega
        | ⟨1, _⟩ => show (y 1).val = 0 + 0; omega)
    refine key.trans ?_
    rw [hm]
    exact rd2_eq (a := 32) (b := 1) _ _ rfl rfl
  · have key := View.read_writes_cons_unit_of_not_mem a.view f inb (Q t) [] y heq 0
      (by show (y 0).val < 32 * t ∨ 32 * t + 32 ≤ (y 0).val; omega)
    exact key.trans (hf y (by omega))

/-! ### What a load reads -/

theorem read_tile {a : Memref sig .tc .vmem S256x9216 .bf16} {x : Vec F S256x9216 .bf16} {X : BufTy.Contents (Elt F) a.view.ty}
    (hx : a.view.read (Elt F) X = x) (off : Fin 2 → ℕ) [co : ClosedOff off] {inb : ∀ d, off d + S32x256.size d ≤ S256x9216.size d} :
    a.view.readAt (Elt F) (Rect.unit (s := S256x9216) off S32x256.size inb).toLoadRect X = xt x co.form := by
  subst hx
  funext i
  refine rd2_eq (a := 256) (b := 9216) _ _ ?_ ?_
  · show off 0 + 1 * (i 0).val = _; rw [← co.eq]; omega
  · show off 1 + 1 * (i 1).val = _; rw [← co.eq]; omega

theorem A9.load {a : Memref sig .tc .vmem S8x288x128 e} {G : ℕ → ℕ → ℕ → Val e} {b r : ℕ}
    {inb₀ : ∀ d, (![b, 0, 0] : Fin 3 → ℕ) d + S1x288x128.size d ≤ S8x288x128.size d} {h₀ : ∀ x, (Rect.unit (s := S8x288x128) ![b, 0, 0] S1x288x128.size inb₀).stride x = 1}
    {hq : (Rect.unit (s := S8x288x128) ![b, 0, 0] S1x288x128.size inb₀).shape.Squeezes S288x128} {inb}
    {f : BufTy.Contents Val a.view.ty} (hf : A9 a G 288 f) :
    (Memref.squeeze (a.slice (Rect.unit (s := S8x288x128) ![b, 0, 0] S1x288x128.size inb₀) h₀) S288x128 hq).view.readAt Val
      (⟨![r, 0], S72x128.size, ![4, 1], inb⟩ : LoadRect S288x128) f = fun i => G b (r + 4 * (i 0).val) (i 1).val := by
  funext i
  have hb : b + 1 ≤ 8 := inb₀ 0
  have hi : ((⟨![r, 0], S72x128.size, ![4, 1], inb⟩ : LoadRect S288x128).idx i 0).val < 288 := Fin.isLt _
  refine (congrArg (a.view.read Val f) (piece_emb inb₀ hq.numel_eq ((⟨![r, 0], S72x128.size, ![4, 1], inb⟩ : LoadRect S288x128).idx i))).trans ?_
  refine (hf _ ?_).trans ?_
  · show ((⟨![r, 0], S72x128.size, ![4, 1], inb⟩ : LoadRect S288x128).idx i 0).val / 8 * 8 + b < 288; omega
  · show G b (r + 4 * (i 0).val) (0 + 1 * (i 1).val) = _
    simp only [Nat.zero_add, Nat.one_mul]

theorem A10.load {a : Memref sig .tc .vmem S8x288x128 e} {G : ℕ → ℕ → ℕ → Val e} {b o : ℕ}
    {inb : ∀ d, (![b, o, 0] : Fin 3 → ℕ) d + S1x8x128.size d ≤ S8x288x128.size d}
    {f : BufTy.Contents Val a.view.ty} (hf : A10 a G 32 f) :
    a.view.readAt Val (Rect.unit (s := S8x288x128) ![b, o, 0] S1x8x128.size inb).toLoadRect f = fun i => G b (o + (i 1).val) (i 2).val := by
  funext i
  show a.view.read Val f ((Rect.unit (s := S8x288x128) ![b, o, 0] S1x8x128.size inb).emb i) = _
  have hb : b + 1 ≤ 8 := inb 0
  have hi : (i 0).val < 1 := (i 0).isLt
  refine (hf _ ?_).trans ?_
  · show (b + 1 * (i 0).val) / 2 * 8 + (o + 1 * (i 1).val) % 4 * 2 + (b + 1 * (i 0).val) % 2 < 32; omega
  · show G (b + 1 * (i 0).val) (o + 1 * (i 1).val) (0 + 1 * (i 2).val) = _
    rw [show (i 0).val = 0 by omega]
    simp only [Nat.mul_zero, Nat.add_zero, Nat.zero_add, Nat.one_mul]

end Conds

end Cert.KernelIdeal.Hand

end
-- ==== Proof.KOut.lean ====
/-
  The three results of one 256-row tile in closed form, and the column loop's condition.

  `codesV` and `scalesV` put the trips' tiles (KVal.lean) together, `outV` the column loop's: block `n` of 256 columns is the
  product of the codes with the block of the second factor, times the two scales.
-/
module

public import proofs.«01_k».proof.Proof.KVal

@[expose] public section

noncomputable section

namespace Cert.KernelIdeal.Hand

open Cert.KernelIdeal.Gen
open Idealize.ShloMosaic Idealize.ShloMosaic.TcCoe Idealize.ShloMosaic.Tactic Idealize.ShloMosaic.ValueIdx

section Values

variable {F : FTy → Type} [FloatOps F]
variable (x : Vec F S256x9216 .bf16) (hh : Vec F S256x256 .bf16) (m1 m2 m3 : FVec F S72x216 .bf16)

/-- The codes of a tile. -/
def codesV : Vec F S256x9216 .fp8e4m3 := fun y =>
  rd2 (codeTile x hh m1 m2 m3 ((y 0).val / 32) ((y 1).val / 128)) ((y 0).val % 32) ((y 1).val % 128)

/-- The scales of a tile. -/
def scalesV : Vec F S256x1 .f32 := fun y => rd2 (scaleTile x hh m1 m2 m3 ((y 0).val / 32)) ((y 0).val % 32) 0

variable (sc : Vec F S256x1 .f32) (cd : Vec F S256x9216 .fp8e4m3) (w : Vec F S9216x2304 .fp8e4m3) (ws : Vec F S1x2304 .f32)

/-- The block of 256 columns `256n …` of a matrix. -/
def colBlock {a b : ℕ} [NeZero a] [NeZero b] {α : Type} (X : (⟨2, ![a, b]⟩ : Shape).Idx → α) (n : ℕ) : (⟨2, ![a, 256]⟩ : Shape).Idx → α :=
  fun i => rd2 X (i 0).val (256 * n + (i 1).val)

/-- The projection's block `n` of 256 columns. -/
def outTile (n : ℕ) : FVec F S256x256 .bf16 := k0_pay8 sc cd (colBlock (a := 9216) (b := 2304) w n) (colBlock (a := 1) (b := 2304) ws n)

/-- The projection of a tile. -/
def outV : Vec F S256x2304 .bf16 := fun y => rd2 (outTile sc cd w ws ((y 1).val / 256)) (y 0).val ((y 1).val % 256)

end Values

section Conds

variable {sig : RefSig} {Val : EltTy → Type} {e : EltTy}

/-- A load of a whole matrix reads it. -/
theorem read_full {a b : ℕ} {m : Memref sig .tc .vmem ⟨2, ![a, b]⟩ e} {inb : ∀ d, (![0, 0] : Fin 2 → ℕ) d + (⟨2, ![a, b]⟩ : Shape).size d ≤ (⟨2, ![a, b]⟩ : Shape).size d}
    (f : BufTy.Contents Val m.view.ty) :
    m.view.readAt Val (Rect.unit (s := ⟨2, ![a, b]⟩) ![0, 0] (⟨2, ![a, b]⟩ : Shape).size inb).toLoadRect f = m.view.read Val f := by
  funext i
  rw [View.readAt_apply]
  congr 1
  funext d
  refine Fin.ext ?_
  match d with
  | ⟨0, _⟩ => exact (Nat.zero_add _).trans (Nat.one_mul _)
  | ⟨1, _⟩ => exact (Nat.zero_add _).trans (Nat.one_mul _)

/-- A load of 256 columns. -/
theorem read_cols {a b n : ℕ} [NeZero a] [NeZero b] {m : Memref sig .tc .vmem ⟨2, ![a, b]⟩ e} {off : Fin 2 → ℕ} [co : ClosedOff off] {sz : Fin 2 → ℕ}
    (hsz : sz = ![a, 256]) (hoff : co.form = ![0, 256 * n]) {inb : ∀ d, off d + sz d ≤ (⟨2, ![a, b]⟩ : Shape).size d}
    (f : BufTy.Contents Val m.view.ty) (i : (Rect.unit (s := ⟨2, ![a, b]⟩) off sz inb).shape.Idx) :
    m.view.readAt Val (Rect.unit (s := ⟨2, ![a, b]⟩) off sz inb).toLoadRect f i = rd2 (m.view.read Val f) (i 0).val (256 * n + (i 1).val) := by
  have h := co.eq.trans hoff
  subst h
  refine rd2_eq (a := a) (b := b) _ _ ?_ ?_
  · show 0 + 1 * (i 0).val = _; omega
  · show 256 * n + 1 * (i 1).val = _; omega

/-- The projection: its first `n` blocks of 256 columns. -/
def A6 (a : Memref sig .tc .vmem S256x2304 e) (Q : ℕ → S256x256.Idx → Val e) (n : ℕ) (f : BufTy.Contents Val a.view.ty) : Prop :=
  ∀ y : S256x2304.Idx, (y 1).val / 256 < n → a.view.read Val f y = rd2 (Q ((y 1).val / 256)) (y 0).val ((y 1).val % 256)

theorem A6.store {a : Memref sig .tc .vmem S256x2304 e} {Q : ℕ → S256x256.Idx → Val e} {n : ℕ} {off : Fin 2 → ℕ} [co : ClosedOff off]
    {inb : ∀ d, off d + S256x256.size d ≤ S256x2304.size d}
    {w : (Rect.unit (s := S256x2304) off S256x256.size inb).shape.Idx → Val e} (hoff : co.form = ![0, 256 * n])
    (hw : w = Q n) {f : BufTy.Contents Val a.view.ty} (hf : A6 a Q n f) :
    A6 a Q (n + 1) (a.view.writes Val f [⟨Rect.unit (s := S256x2304) off S256x256.size inb, w⟩]) := by
  intro y hy
  subst hw
  have heq : off = ![0, 256 * n] := co.eq.trans hoff
  have h0 : (y 0).val < 256 := (y 0).isLt
  by_cases hm : (y 1).val / 256 = n
  · have key := View.read_writes_cons_unit_of_mem a.view f inb (Q n) [] y
      (ix2 (n0 := 256) (n1 := 256) ⟨(y 0).val, h0⟩ ⟨(y 1).val % 256, Nat.mod_lt _ (by decide)⟩) heq (fun d => by
        match d with
        | ⟨0, _⟩ => show (y 0).val = 0 + (y 0).val; omega
        | ⟨1, _⟩ => show (y 1).val = 256 * n + (y 1).val % 256; omega)
    refine key.trans ?_
    rw [hm]
    exact rd2_eq (a := 256) (b := 256) _ _ rfl rfl
  · refine (View.read_writes_cons_unit_of_not_mem a.view f inb (Q n) [] y heq 1 ?_).trans (hf y (by omega))
    show (y 1).val < 256 * n ∨ 256 * n + 256 ≤ (y 1).val
    omega

/-- All 72 blocks of a trip's codes are the next trip's start. -/
theorem A7.next {a : Memref sig .tc .vmem S256x9216 e} {Q : ℕ → ℕ → S32x128.Idx → Val e} {t : ℕ} {f : BufTy.Contents Val a.view.ty}
    (h : A7 a Q t 72 f) : A7 a Q (t + 1) 0 f := fun y hy => h y (by have : (y 1).val < 9216 := (y 1).isLt; omega)

theorem A7.all {F : FTy → Type} [FloatOps F] {a : Memref sig .tc .vmem S256x9216 .fp8e4m3} {x : Vec F S256x9216 .bf16} {hh : Vec F S256x256 .bf16} {m1 m2 m3 : FVec F S72x216 .bf16}
    {f : BufTy.Contents (Elt F) a.view.ty} (h : A7 a (codeTile x hh m1 m2 m3) 8 0 f) : a.view.read (Elt F) f = codesV x hh m1 m2 m3 :=
  funext fun y => h y (.inl (by have : (y 0).val < 256 := (y 0).isLt; omega))

theorem A8.all {F : FTy → Type} [FloatOps F] {a : Memref sig .tc .vmem S256x1 .f32} {x : Vec F S256x9216 .bf16} {hh : Vec F S256x256 .bf16} {m1 m2 m3 : FVec F S72x216 .bf16}
    {f : BufTy.Contents (Elt F) a.view.ty} (h : A8 a (scaleTile x hh m1 m2 m3) 8 f) : a.view.read (Elt F) f = scalesV x hh m1 m2 m3 :=
  funext fun y => h y (by have : (y 0).val < 256 := (y 0).isLt; omega)

theorem A6.all {F : FTy → Type} [FloatOps F] {a : Memref sig .tc .vmem S256x2304 .bf16} {sc : Vec F S256x1 .f32} {cd : Vec F S256x9216 .fp8e4m3}
    {w : Vec F S9216x2304 .fp8e4m3} {ws : Vec F S1x2304 .f32} {f : BufTy.Contents (Elt F) a.view.ty} (h : A6 a (outTile sc cd w ws) 9 f) :
    a.view.read (Elt F) f = outV sc cd w ws :=
  funext fun y => h y (by have : (y 1).val < 2304 := (y 1).isLt; omega)

end Conds

end Cert.KernelIdeal.Hand

end
-- ==== Proof.KRules.lean ====
/-
  The steps of a trip with the values told: each store of the row loop's body, its payload as the definitions of KVal.lean
  give it, takes a buffer's condition to the next.
-/
module

public import proofs.«01_k».proof.Proof.KVal
public import proofs.«01_k».proof.Proof.Steps

@[expose] public section

noncomputable section

namespace Cert.KernelIdeal.Hand

open Cert.KernelIdeal.Gen Cert.Steps
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {UU : Type} [URA UU]
variable {s1 s3 s7 s8 : Shape} {e1 e3 e7 e8 e9 e10 : EltTy} {α : Type}
variable {defs : Defs nD τ sig Val Λ} {𝒱 : Variants} {c : Dev nD} {bd : Option 𝒱.V} {E : Set ℕ}
variable {a1 : Memref sig .tc .vmem s1 e1} {a3 : Memref sig .tc .vmem s3 e3}
variable {X1 : Cont Val a1} {X3 : Cont Val a3} {Q : α → sProp (MT nD τ sig Unit Val ℕ UU ℕ)}
variable {a9 : Memref sig .tc .vmem S8x288x128 e9} {a10 : Memref sig .tc .vmem S8x288x128 e10}
variable {I9 : Cont Val a9 → Prop} {I10 : Cont Val a10 → Prop}

section Any78

variable {a7 : Memref sig .tc .vmem s7 e7} {a8 : Memref sig .tc .vmem s8 e8} {I7 : Cont Val a7 → Prop} {I8 : Cont Val a8 → Prop}

theorem store9v {G : ℕ → ℕ → ℕ → Val e9} {n j o : ℕ}
    {inb : ∀ d, (![j, o, 0] : Fin 3 → ℕ) d + S1x8x128.size d ≤ S8x288x128.size d}
    {w : (Rect.unit (s := S8x288x128) ![j, o, 0] S1x8x128.size inb).shape.Idx → Val e9} {hx hm} {k : PUnit → Prog (TpuEff nD τ sig Val Λ .tc) α}
    (hn : n = o / 8 * 8 + j) (ho : o % 8 = 0) (hw : w = fun i => G j (o + (i 1).val) (i 2).val)
    (h : Runs defs 𝒱 c bd E a1 a3 a7 a8 a9 a10 X1 X3 Q I7 I8 (A9 a9 G (o / 8 * 8 + j + 1)) I10 (k ⟨⟩)) :
    Runs defs 𝒱 c bd E a1 a3 a7 a8 a9 a10 X1 X3 Q I7 I8 (A9 a9 G n) I10
      (.op (.store a9 (Rect.unit (s := S8x288x128) ![j, o, 0] S1x8x128.size inb) w Finset.univ hx hm) k) :=
  Runs.store9 (fun _ hf => A9.store hn ho hw hf) h

theorem store10v {G : ℕ → ℕ → ℕ → Val e10} {n b r : ℕ}
    {inb₀ : ∀ d, (![b, 0, 0] : Fin 3 → ℕ) d + S1x288x128.size d ≤ S8x288x128.size d} {h₀ : ∀ x, (Rect.unit (s := S8x288x128) ![b, 0, 0] S1x288x128.size inb₀).stride x = 1}
    {hq : (Rect.unit (s := S8x288x128) ![b, 0, 0] S1x288x128.size inb₀).shape.Squeezes S288x128} {inb hst}
    {w : S72x128.Idx → Val e10} {hx hm} {k : PUnit → Prog (TpuEff nD τ sig Val Λ .tc) α}
    (hr : r < 4) (hn : n = b / 2 * 8 + r * 2 + b % 2) (hw : w = fun i => G b (r + 4 * (i 0).val) (i 1).val)
    (h : Runs defs 𝒱 c bd E a1 a3 a7 a8 a9 a10 X1 X3 Q I7 I8 I9 (A10 a10 G (b / 2 * 8 + r * 2 + b % 2 + 1)) (k ⟨⟩)) :
    Runs defs 𝒱 c bd E a1 a3 a7 a8 a9 a10 X1 X3 Q I7 I8 I9 (A10 a10 G n)
      (.op (.store (Memref.squeeze (a10.slice (Rect.unit (s := S8x288x128) ![b, 0, 0] S1x288x128.size inb₀) h₀) S288x128 hq)
        ⟨(⟨![r, 0], S72x128.size, ![4, 1], inb⟩ : LoadRect S288x128), hst⟩ w Finset.univ hx hm) k) :=
  Runs.store10s (fun _ hf => A10.store hr hn hw hf) h

end Any78

variable {a7 : Memref sig .tc .vmem S256x9216 e7} {a8 : Memref sig .tc .vmem S256x1 e8} {I7 : Cont Val a7 → Prop} {I8 : Cont Val a8 → Prop}

theorem store7v {QQ : ℕ → ℕ → S32x128.Idx → Val e7} {t n o : ℕ} {off : Fin 2 → ℕ} [co : ClosedOff off]
    {inb : ∀ d, off d + S32x128.size d ≤ S256x9216.size d}
    {w : (Rect.unit (s := S256x9216) off S32x128.size inb).shape.Idx → Val e7} {hx hm} {k : PUnit → Prog (TpuEff nD τ sig Val Λ .tc) α}
    (hoff : co.form = ![32 * t, o]) (hn : n = o / 128) (ho : o % 128 = 0) (hw : w = QQ t (o / 128))
    (h : Runs defs 𝒱 c bd E a1 a3 a7 a8 a9 a10 X1 X3 Q (A7 a7 QQ t (o / 128 + 1)) I8 I9 I10 (k ⟨⟩)) :
    Runs defs 𝒱 c bd E a1 a3 a7 a8 a9 a10 X1 X3 Q (A7 a7 QQ t n) I8 I9 I10
      (.op (.store a7 (Rect.unit (s := S256x9216) off S32x128.size inb) w Finset.univ hx hm) k) :=
  Runs.store7 (fun _ hf => A7.store hoff hn ho hw hf) h

theorem store8v {QQ : ℕ → S32x1.Idx → Val e8} {t : ℕ} {off : Fin 2 → ℕ} [co : ClosedOff off]
    {inb : ∀ d, off d + S32x1.size d ≤ S256x1.size d}
    {w : (Rect.unit (s := S256x1) off S32x1.size inb).shape.Idx → Val e8} {hx hm} {k : PUnit → Prog (TpuEff nD τ sig Val Λ .tc) α}
    (hoff : co.form = ![32 * t, 0]) (hw : w = QQ t)
    (h : Runs defs 𝒱 c bd E a1 a3 a7 a8 a9 a10 X1 X3 Q I7 (A8 a8 QQ (t + 1)) I9 I10 (k ⟨⟩)) :
    Runs defs 𝒱 c bd E a1 a3 a7 a8 a9 a10 X1 X3 Q I7 (A8 a8 QQ t) I9 I10
      (.op (.store a8 (Rect.unit (s := S256x1) off S32x1.size inb) w Finset.univ hx hm) k) :=
  Runs.store8 (fun _ hf => A8.store hoff hw hf) h

/-- An equation between two terms, to rewrite the first by the second. -/
theorem as_eq {β : Sort*} {a b : β} (h : a = b) : a = b := h

end Cert.KernelIdeal.Hand

end
-- ==== Proof.ITrip.lean ====
/-
  One trip of the row loop, run at any float algebra, with what it leaves in the outputs' buffers: the codes and scales of its 32 rows.
  The printed body's parts are opened and the memory operations taken one by one with the rules of `Steps` and `KRules`; runs of
  like operations go by `iterate`.
-/
module

public import proofs.«01_k».proof.Proof.KRules

@[expose] public section

set_option maxRecDepth 65536
set_option maxHeartbeats 20000000

noncomputable section

namespace Cert.KernelIdeal.Hand

open Cert.KernelIdeal Cert.KernelIdeal.Gen Cert.Steps
open Idealize.ShloMosaic Idealize.ShloMosaic.ValueIdx Idealize.ShloMosaic.TcCoe Idealize.ShloMosaic.Tactic
open Idealize.SL Idealize.SL.RA Idealize.SL.BI Idealize.ShloMosaic.Rounds
open scoped Idealize.SL.BI
open Idealize.SL.BI.BIBase Idealize.SL.BI.Laws Idealize.SL.ProofMode Idealize.SL.Sem

variable {F : FTy → Type} [FloatOps F]

/-- One trip of the row loop, from the codes and scales of the earlier trips, leaves its own as well. -/
theorem trip_runs (c : Dev nD) (i : grid0.Coords) (arg1 : Memref sig .tc .vmem S256x9216 .bf16) (harg1 : arg1.IsWhole) (arg2 : Memref sig .tc .vmem S72x216 .f32) (harg2 : arg2.IsWhole) (arg3 : Memref sig .tc .vmem S256x256 .bf16) (harg3 : arg3.IsWhole)
    (arg4 : Memref sig .tc .vmem S9216x2304 .fp8e4m3) (harg4 : arg4.IsWhole) (arg5 : Memref sig .tc .vmem S1x2304 .f32) (harg5 : arg5.IsWhole) (arg6 : Memref sig .tc .vmem S256x2304 .bf16) (harg6 : arg6.IsWhole)
    (arg7 : Memref sig .tc .vmem S256x9216 .fp8e4m3) (harg7 : arg7.IsWhole) (arg8 : Memref sig .tc .vmem S256x1 .f32) (harg8 : arg8.IsWhole) (arg9 : Memref sig .tc .vmem S8x288x128 .f32) (harg9 : arg9.IsWhole)
    (arg10 : Memref sig .tc .vmem S8x288x128 .f32) (harg10 : arg10.IsWhole)
    (v0 : Vec F S72x216 .f32) (X1 : Cont (Elt F) arg1) (X3 : Cont (Elt F) arg3) (k : Fin k0_t1_loop.trips)
    (x : Vec F S256x9216 .bf16) (hh : Vec F S256x256 .bf16) (hx : arg1.view.read (Elt F) X1 = x)
    (hH : arg3.view.readAt (Elt F) (Rect.unit (s := S256x256) ![0, 0] S256x256.size inb_S256x256_S256x256_0_0).toLoadRect X3 = hh) :
    Runs (U := UR sig nD τ) (defs₀ (F := F)) Variants.none c none Set.univ arg1 arg3 arg7 arg8 arg9 arg10 X1 X3
      (fun _ => iprop(∃ f7 f8 f9 f10, ⌜A7 arg7 (codeTile x hh (k0_pay5 v0) (k0_pay6 v0) (k0_pay7 v0)) k.val 72 f7
          ∧ A8 arg8 (scaleTile x hh (k0_pay5 v0) (k0_pay6 v0) (k0_pay7 v0)) (k.val + 1) f8⌝ ∗ held (UR sig nD τ) c arg1 arg3 arg7 arg8 arg9 arg10 X1 X3 f7 f8 f9 f10))
      (A7 arg7 (codeTile x hh (k0_pay5 v0) (k0_pay6 v0) (k0_pay7 v0)) k.val 0)
      (A8 arg8 (scaleTile x hh (k0_pay5 v0) (k0_pay6 v0) (k0_pay7 v0)) k.val)
      (A9 arg9 (G9 x hh k.val) 0) (A10 arg10 (G10 x hh (k0_pay5 v0) (k0_pay6 v0) (k0_pay7 v0) k.val) 0)
      (k0_t1_body i arg1 harg1 arg2 harg2 arg3 harg3 arg4 harg4 arg5 harg5 arg6 harg6 arg7 harg7 arg8 harg8 arg9 harg9 arg10 harg10 v0 k PUnit.unit) := by
  generalize hm1 : k0_pay5 v0 = m1
  generalize hm2 : k0_pay6 v0 = m2
  generalize hm3 : k0_pay7 v0 = m3
  unfold k0_t1_body
  rw [k0_part152_eq_skeleton, k0_part153_eq_skeleton, k0_part154_eq_skeleton]
  unfold k0_part152_skel k0_part153_skel k0_part154_skel
  rw [hm1, hm2, hm3]
  simp only [
    k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton, k0_part36_eq_skeleton,
    k0_part37_eq_skeleton, k0_part38_eq_skeleton, k0_part39_eq_skeleton, k0_part40_eq_skeleton, k0_part41_eq_skeleton, k0_part42_eq_skeleton,
    k0_part43_eq_skeleton, k0_part44_eq_skeleton, k0_part45_eq_skeleton, k0_part46_eq_skeleton, k0_part47_eq_skeleton, k0_part48_eq_skeleton,
    k0_part49_eq_skeleton, k0_part50_eq_skeleton, k0_part51_eq_skeleton, k0_part52_eq_skeleton, k0_part53_eq_skeleton, k0_part54_eq_skeleton,
    k0_part55_eq_skeleton, k0_part56_eq_skeleton, k0_part57_eq_skeleton, k0_part58_eq_skeleton, k0_part59_eq_skeleton, k0_part60_eq_skeleton,
    k0_part61_eq_skeleton, k0_part62_eq_skeleton, k0_part63_eq_skeleton, k0_part64_eq_skeleton, k0_part65_eq_skeleton, k0_part66_eq_skeleton,
    k0_part67_eq_skeleton, k0_part68_eq_skeleton, k0_part69_eq_skeleton, k0_part70_eq_skeleton, k0_part71_eq_skeleton, k0_part72_eq_skeleton,
    k0_part73_eq_skeleton, k0_part74_eq_skeleton, k0_part75_eq_skeleton, k0_part76_eq_skeleton, k0_part77_eq_skeleton, k0_part78_eq_skeleton,
    k0_part79_eq_skeleton, k0_part80_eq_skeleton, k0_part81_eq_skeleton, k0_part82_eq_skeleton, k0_part83_eq_skeleton, k0_part84_eq_skeleton,
    k0_part85_eq_skeleton, k0_part86_eq_skeleton, k0_part87_eq_skeleton, k0_part88_eq_skeleton, k0_part89_eq_skeleton, k0_part90_eq_skeleton,
    k0_part91_eq_skeleton, k0_part92_eq_skeleton, k0_part93_eq_skeleton, k0_part94_eq_skeleton, k0_part95_eq_skeleton, k0_part96_eq_skeleton,
    k0_part97_eq_skeleton, k0_part98_eq_skeleton, k0_part99_eq_skeleton, k0_part100_eq_skeleton, k0_part101_eq_skeleton, k0_part102_eq_skeleton,
    k0_part103_eq_skeleton, k0_part104_eq_skeleton, k0_part105_eq_skeleton, k0_part106_eq_skeleton, k0_part107_eq_skeleton, k0_part108_eq_skeleton,
    k0_part109_eq_skeleton, k0_part110_eq_skeleton, k0_part111_eq_skeleton, k0_part112_eq_skeleton, k0_part113_eq_skeleton, k0_part114_eq_skeleton,
    k0_part115_eq_skeleton, k0_part116_eq_skeleton, k0_part117_eq_skeleton, k0_part118_eq_skeleton, k0_part119_eq_skeleton, k0_part120_eq_skeleton,
    k0_part121_eq_skeleton, k0_part122_eq_skeleton, k0_part123_eq_skeleton, k0_part124_eq_skeleton, k0_part125_eq_skeleton, k0_part126_eq_skeleton,
    k0_part127_eq_skeleton, k0_part128_eq_skeleton, k0_part129_eq_skeleton, k0_part130_eq_skeleton, k0_part131_eq_skeleton, k0_part132_eq_skeleton,
    k0_part133_eq_skeleton, k0_part134_eq_skeleton, k0_part135_eq_skeleton, k0_part136_eq_skeleton, k0_part137_eq_skeleton, k0_part138_eq_skeleton,
    k0_part139_eq_skeleton, k0_part140_eq_skeleton, k0_part141_eq_skeleton, k0_part142_eq_skeleton, k0_part143_eq_skeleton, k0_part144_eq_skeleton,
    k0_part145_eq_skeleton, k0_part146_eq_skeleton, k0_part147_eq_skeleton, k0_part148_eq_skeleton, k0_part149_eq_skeleton, k0_part150_eq_skeleton,
    k0_part151_eq_skeleton]
  -- the 36 products of 32 rows of the tile with the matrix, each stored in eight pieces
  iterate 36
    refine Runs.load1 _ (read_tile hx _) ?_
    refine Runs.load3 _ hH ?_
    iterate 8
      refine Runs.load9 fun _ _ => ?_
      refine store9v (by rfl) (by rfl) (by refine piece9 ?_ ?_ ?_ ?_ ?_ ?_ <;> first | rfl | decide) ?_
  -- the 16 products of the mix matrix with two strided pieces, each stored in two strided pieces
  iterate 16
    refine Runs.read9s (U9 x hh k.val _ _) (fun f hf => A9.load hf) ?_
    refine Runs.read9s (U9 x hh k.val _ _) (fun f hf => A9.load hf) ?_
    iterate 2
      refine Runs.load10s fun _ => ?_
      refine store10v (by decide) (by rfl) (by refine piece10 ?_ ?_ ?_ ?_ ?_ <;> first | rfl | decide) ?_
  -- the rows' largest magnitudes, group 0
  iterate 73
    refine Runs.read10 (Y10 x hh m1 m2 m3 k.val _ _) (fun f hf => A10.load hf) ?_
  rw [as_eq (a := k0_pay447 _ _ _ _) (b := inv x hh m1 m2 m3 k.val 0) ?inv0, as_eq (a := k0_pay448 _ _ _ _) (b := scl x hh m1 m2 m3 k.val 0) ?scl0]
  case inv0 => rfl
  case scl0 => rfl
  -- the rows' largest magnitudes, group 1
  iterate 76
    refine Runs.read10 (Y10 x hh m1 m2 m3 k.val _ _) (fun f hf => A10.load hf) ?_
  rw [as_eq (a := k0_pay465 _ _ _) (b := inv x hh m1 m2 m3 k.val 1) ?inv1, as_eq (a := k0_pay466 _ _ _) (b := scl x hh m1 m2 m3 k.val 1) ?scl1]
  case inv1 => rfl
  case scl1 => rfl
  -- the rows' largest magnitudes, group 2
  iterate 68
    refine Runs.read10 (Y10 x hh m1 m2 m3 k.val _ _) (fun f hf => A10.load hf) ?_
  rw [as_eq (a := k0_pay483 _ _ _ _) (b := inv x hh m1 m2 m3 k.val 2) ?inv2, as_eq (a := k0_pay484 _ _ _ _) (b := scl x hh m1 m2 m3 k.val 2) ?scl2]
  case inv2 => rfl
  case scl2 => rfl
  iterate 71
    refine Runs.read10 (Y10 x hh m1 m2 m3 k.val _ _) (fun f hf => A10.load hf) ?_
  refine Runs.load8 fun _ => ?_
  refine store8v rfl (by rfl) ?_
  rw [as_eq (a := k0_pay502 _ _ _) (b := inv x hh m1 m2 m3 k.val 3) ?inv3,
    as_eq (a := k0_pay508 _ _ _) (b := broadcastTo S8x128 (inv x hh m1 m2 m3 k.val 3) broadcasts_S8x1_S8x128) ?binv3]
  case inv3 => rfl
  case binv3 => rfl
  -- the codes
  iterate 72
    iterate 4
      refine Runs.read10 (Y10 x hh m1 m2 m3 k.val _ _) (fun f hf => A10.load hf) ?_
    refine Runs.load7 fun _ => ?_
    refine store7v (by rfl) (by rfl) (by rfl) (by rfl) ?_
  refine Runs.ret fun f7 f8 f9 f10 h7 h8 _ _ => ?_
  iintro H
  iexists f7, f8, f9, f10
  isplitl []
  · ipureintro
    exact ⟨h7, h8⟩
  iexact H

end Cert.KernelIdeal.Hand

end
-- ==== Proof.IFrame.lean ====
/-
  The kernel's run at any float algebra: what each output's buffer holds after the body at each grid point (`outAt`, `codesAt`,
  `scalesAt`), and the run of the program with its arrays as the library says.
-/
module

public import Idealize.ShloMosaic.Lib.Claim
public import proofs.«01_k».proof.Proof.Gen.KernelIdeal.Frame
public import proofs.«01_k».proof.Proof.KOut
public import proofs.«01_k».proof.Proof.ITrip

@[expose] public section

set_option maxRecDepth 65536
set_option maxHeartbeats 20000000

noncomputable section

namespace Cert.KernelIdeal.Hand

open Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The kernel's body leaves a tile's projection, codes and scales in its outputs' buffers. -/
theorem sound_kernel (c : Dev nD) (i : grid0.Coords) (arg1 : Memref sig .tc .vmem S256x9216 .bf16) (harg1 : arg1.IsWhole) (arg2 : Memref sig .tc .vmem S72x216 .f32) (harg2 : arg2.IsWhole)
    (arg3 : Memref sig .tc .vmem S256x256 .bf16) (harg3 : arg3.IsWhole) (arg4 : Memref sig .tc .vmem S9216x2304 .fp8e4m3) (harg4 : arg4.IsWhole)
    (arg5 : Memref sig .tc .vmem S1x2304 .f32) (harg5 : arg5.IsWhole) (arg6 : Memref sig .tc .vmem S256x2304 .bf16) (harg6 : arg6.IsWhole)
    (arg7 : Memref sig .tc .vmem S256x9216 .fp8e4m3) (harg7 : arg7.IsWhole) (arg8 : Memref sig .tc .vmem S256x1 .f32) (harg8 : arg8.IsWhole)
    (arg9 : Memref sig .tc .vmem S8x288x128 .f32) (harg9 : arg9.IsWhole) (arg10 : Memref sig .tc .vmem S8x288x128 .f32) (harg10 : arg10.IsWhole)
    (x1 : Vec F S256x9216 .bf16) (x2 : Vec F S72x216 .f32) (x3 : Vec F S256x256 .bf16) (x4 : Vec F S9216x2304 .fp8e4m3) (x5 : Vec F S1x2304 .f32)
    (K : PUnit → sProp (MT nD τ sig Unit (Elt F) ℕ (UR sig nD τ) ℕ)) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ f : Cont (Elt F) arg9, arg9.view.loc (c : Thread nD τ) ↦[arg9.view.set]{fullShare} f) ∗ (∃ f : Cont (Elt F) arg10, arg10.view.loc (c : Thread nD τ) ↦[arg10.view.set]{fullShare} f)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (outV (scalesV x1 x3 (k0_pay5 x2) (k0_pay6 x2) (k0_pay7 x2)) (codesV x1 x3 (k0_pay5 x2) (k0_pay6 x2) (k0_pay7 x2)) x4 x5) ∗ owns (c : Thread nD τ) arg7 fullShare (codesV x1 x3 (k0_pay5 x2) (k0_pay6 x2) (k0_pay7 x2)) ∗ owns (c : Thread nD τ) arg8 fullShare (scalesV x1 x3 (k0_pay5 x2) (k0_pay6 x2) (k0_pay7 x2))
            ∗ (∃ f : Cont (Elt F) arg9, arg9.view.loc (c : Thread nD τ) ↦[arg9.view.set]{fullShare} f) ∗ (∃ f : Cont (Elt F) arg10, arg10.view.loc (c : Thread nD τ) ↦[arg10.view.set]{fullShare} f)) -∗ K ⟨⟩))
      ⊢ wp frame (wpE (defs₀ (F := F)) Variants.none c none) Set.univ (cc0_hadamard_fp8_down_proj i arg1 harg1 arg2 harg2 arg3 harg3 arg4 harg4 arg5 harg5 arg6 harg6 arg7 harg7 arg8 harg8 arg9 harg9 arg10 harg10) K := by
  simp only [cc0_hadamard_fp8_down_proj_eq_skeleton]; unfold cc0_hadamard_fp8_down_proj_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩,
    ⟨%d8, %f8, -, H8⟩, ⟨%f9, H9⟩, ⟨%f10, H10⟩, Hk⟩
  sl_exec
  irw [show View.readAt (Elt F) arg2.view (Rect.unit (s := S72x216) ![0, 0] S72x216.size inb_S72x216_S72x216_0_0).toLoadRect f2 = x2 from (read_full f2).trans hf2]
  sl_for (fun k _ => iprop(∃ g7 g8 g9 g10, ⌜A7 arg7 (codeTile x1 x3 (k0_pay5 x2) (k0_pay6 x2) (k0_pay7 x2)) k 0 g7 ∧ A8 arg8 (scaleTile x1 x3 (k0_pay5 x2) (k0_pay6 x2) (k0_pay7 x2)) k g8⌝
    ∗ held (UR sig nD τ) c arg1 arg3 arg7 arg8 arg9 arg10 f1 f3 g7 g8 g9 g10)) $$ [H1 H3 H7 H8 H9 H10]
  case region =>
    intro k _
    iintro ⟨%g7, %g8, %g9, %g10, %hg, H⟩
    iapply (wp_wand_r Idealize.ShloMosaic.frame (wpE (defs₀ (F := F)) Variants.none (c : Thread nD τ) none) Set.univ)
    isplitl [H]
    · iapply (trip_runs c i arg1 harg1 arg2 harg2 arg3 harg3 arg4 harg4 arg5 harg5 arg6 harg6 arg7 harg7 arg8 harg8 arg9 harg9 arg10 harg10 x2 f1 f3 k x1 x3 hf1 ((read_full f3).trans hf3) g7 g8 g9 g10 hg.1 hg.2 (fun _ h => absurd h (Nat.not_lt_zero _)) (fun _ h => absurd h (Nat.not_lt_zero _)))
      iexact H
    · iintro %_ ⟨%g7, %g8, %g9, %g10, %hg, H⟩
      iexists g7, g8, g9, g10
      isplitr
      · ipureintro; exact ⟨hg.1.next, hg.2⟩
      iexact H
  · iexists f7, f8, f9, f10
    isplitr
    · ipureintro; exact ⟨fun _ h => absurd h (by omega), fun _ h => absurd h (Nat.not_lt_zero _)⟩
    isplitl [H1]; · iexact H1
    isplitl [H3]; · iexact H3
    isplitl [H7]; · iexact H7
    isplitl [H8]; · iexact H8
    isplitl [H9]; · iexact H9
    iexact H10
  irw [show Scf.trips k0_t1_loop.lb k0_t1_loop.ub k0_t1_loop.st = 8 by decide]
  iintro %_ ⟨%g7, %g8, %g9, %g10, %hg, ⟨H1, H3, H7, H8, H9, H10⟩⟩
  have h7 := A7.all hg.1
  have h8 := A8.all hg.2
  unfold sound_kernel.sl.prog.cont_1
  irw [Prog.bind_lift]
  sl_step
  irw [show View.readAt (Elt F) arg8.view (Rect.unit (s := S256x1) ![0, 0] S256x1.size inb_S256x1_S256x1_0_0).toLoadRect g8 = (scalesV x1 x3 (k0_pay5 x2) (k0_pay6 x2) (k0_pay7 x2)) from (read_full g8).trans h8]
  sl_for (fun k _ => iprop(∃ g6, ⌜A6 arg6 (outTile (scalesV x1 x3 (k0_pay5 x2) (k0_pay6 x2) (k0_pay7 x2)) (codesV x1 x3 (k0_pay5 x2) (k0_pay6 x2) (k0_pay7 x2)) x4 x5) k g6⌝ ∗ (arg4.view.loc (c : Thread nD τ) ↦[arg4.view.set]{fullShare} f4)
    ∗ (arg5.view.loc (c : Thread nD τ) ↦[arg5.view.set]{fullShare} f5) ∗ (arg7.view.loc (c : Thread nD τ) ↦[arg7.view.set]{fullShare} g7)
    ∗ (arg6.view.loc (c : Thread nD τ) ↦[arg6.view.set]{fullShare} g6))) $$ [H4 H5 H7 H6]
  case region =>
    intro k _
    unfold sound_kernel.sl.prog.body_2 k0_t2_body
    iintro ⟨%g6, %hg6, H4, H5, H7, H6⟩
    sl_exec
    sl_step
    iexists _
    isplitr
    swap
    · isplitl [H4]; · iexact H4
      isplitl [H5]; · iexact H5
      isplitl [H7]; · iexact H7
      iexact H6
    ipureintro
    refine A6.store rfl ?_ hg6
    unfold outTile
    rw [read_full, h7]
    congr 1
    · funext i; rw [← hf4]; exact read_cols (a := 9216) (b := 2304) rfl rfl f4 i
    · funext i; rw [← hf5]; exact read_cols (a := 1) (b := 2304) rfl rfl f5 i
  · iexists f6
    isplitr
    · ipureintro; exact fun _ h => absurd h (Nat.not_lt_zero _)
    isplitl [H4]; · iexact H4
    isplitl [H5]; · iexact H5
    isplitl [H7]; · iexact H7
    iexact H6
  irw [show Scf.trips k0_t2_loop.lb k0_t2_loop.ub k0_t2_loop.st = 9 by decide]
  iintro %_ ⟨%g6, %hg6, H4, H5, H7, H6⟩
  have h6 := A6.all hg6
  sl_exec
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists g6; isplitr; · ipureintro; exact h6
    iexact H6
  isplitl [H7]
  · iexists g7; isplitr; · ipureintro; exact h7
    iexact H7
  isplitl [H8]
  · iexists g8; isplitr; · ipureintro; exact h8
    iexact H8
  isplitl [H9]; · iexists _; iexact H9
  iexists _; iexact H10

/-! ## The pipeline's proof data -/

variable (m : (ℓ : Loc nD τ sig) → Buf (Elt F) ℓ) (ρ : Dev nD → PrngReg)

/-- The codes of the tile at grid point `t`. -/
def codesAt (c : Dev nD) (t : Fin cfg0.N) : Vec F S256x9216 .fp8e4m3 :=
  codesV (iblk m c 0 t) (iblk m c 2 t) (k0_pay5 (iblk m c 1 t)) (k0_pay6 (iblk m c 1 t)) (k0_pay7 (iblk m c 1 t))

/-- Its scales. -/
def scalesAt (c : Dev nD) (t : Fin cfg0.N) : Vec F S256x1 .f32 :=
  scalesV (iblk m c 0 t) (iblk m c 2 t) (k0_pay5 (iblk m c 1 t)) (k0_pay6 (iblk m c 1 t)) (k0_pay7 (iblk m c 1 t))

/-- Its projection. -/
def outAt (c : Dev nD) (t : Fin cfg0.N) : Vec F S256x2304 .bf16 := outV (scalesAt m c t) (codesAt m c t) (iblk m c 3 t) (iblk m c 4 t)

/-- Each input's buffer holds its block at every point, each output's what the body leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => codesAt m c t
    | ⟨7, _⟩ => scalesAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem after0_5 (c : Dev nD) (t : Fin cfg0.N) : (dats m 0 c).after 5 t = outAt m c t := by dsimp only [dats]
theorem after0_6 (c : Dev nD) (t : Fin cfg0.N) : (dats m 0 c).after 6 t = codesAt m c t := by dsimp only [dats]
theorem after0_7 (c : Dev nD) (t : Fin cfg0.N) : (dats m 0 c).after 7 t = scalesAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, the windows one by one, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point, its scratch buffers taken out of the invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7]
  unfold outAt scalesAt codesAt Pipeline.ΦA
  rw [scopedRest0_eq]
  simp only [← View.set_whole cc0_scratch0, ← View.set_whole cc0_scratch1]
  iintro ⟨⟨⟨⟨%f9, H9⟩, ⟨%f10, H10⟩⟩, Hρ⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c (grid0.coords t) _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H9]; · iexists f9; iexact H9
  isplitl [H10]; · iexists f10; iexact H10
  iintro ⟨H0, H1, H2, H3, H4, H5, H6, H7, H9, H10⟩
  isplitl [H9 H10 Hρ]
  · isplitl [H9 H10]
    · isplitl [H9]; · iexact H9
      iexact H10
    iexact Hρ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program runs, its arrays as the library says and every semaphore counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs, its arguments end unchanged, and every semaphore counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Hand

end
-- ==== Proof.Sign.lean ====
/-
The fast Walsh-Hadamard transform over the reals. A stage of the butterfly replaces each pair of entries that are `2^k`
apart by their sum and their difference; after eight stages a row of 256 entries is multiplied by the matrix of signs
`sgn 8`.
-/
module

public import Idealize.ShloMosaic.Lib.Pipeline.Value
public import Idealize.ShloMosaic.Lib.ValueLayout
public import Mathlib.Data.EReal.Operations
public import Mathlib.Tactic.Ring
public import Mathlib.Tactic.NormNum
public import Mathlib.Tactic.Positivity
public import Mathlib.Tactic.Linarith

@[expose] public section

noncomputable section

namespace Cert.Hand

/-- The sign at row `p` and column `q` of the `2^k × 2^k` Hadamard matrix: minus one for each bit below `k` that both
have. -/
def sgn : ℕ → ℕ → ℕ → ℝ
  | 0, _, _ => 1
  | k + 1, p, q => sgn k p q * (if p / 2 ^ k % 2 = 1 ∧ q / 2 ^ k % 2 = 1 then -1 else 1)

theorem sgn_comm (k p q : ℕ) : sgn k p q = sgn k q p := by
  induction k with
  | zero => rfl
  | succ k ih => simp only [sgn, ih, and_comm]

theorem bit_mod (k p p' : ℕ) (h : p % 2 ^ (k + 1) = p' % 2 ^ (k + 1)) :
    p % 2 ^ k = p' % 2 ^ k ∧ p / 2 ^ k % 2 = p' / 2 ^ k % 2 := by
  constructor
  · have := congrArg (· % 2 ^ k) h
    simpa [Nat.mod_mod_of_dvd _ (pow_dvd_pow 2 (Nat.le_succ k))] using this
  · have e (x : ℕ) : x % 2 ^ (k + 1) / 2 ^ k = x / 2 ^ k % 2 := by
      rw [pow_succ, Nat.mod_mul_right_div_self]
    rw [← e p, ← e p', h]

/-- Only the bits below `k` matter. -/
theorem sgn_congr (k : ℕ) : ∀ p p' q q' : ℕ, p % 2 ^ k = p' % 2 ^ k → q % 2 ^ k = q' % 2 ^ k →
    sgn k p q = sgn k p' q' := by
  induction k with
  | zero => intros; rfl
  | succ k ih =>
    intro p p' q q' hp hq
    obtain ⟨hp1, hp2⟩ := bit_mod k p p' hp
    obtain ⟨hq1, hq2⟩ := bit_mod k q q' hq
    simp only [sgn, ih p p' q q' hp1 hq1, hp2, hq2]

/-- One stage of the butterfly, at distance `h`. -/
def stage (h : ℕ) (f : ℕ → ℝ) (p : ℕ) : ℝ :=
  if p / h % 2 = 0 then f p + f (p + h) else f (p - h) - f p

/-- The first `k` stages. -/
def stages : ℕ → (ℕ → ℝ) → ℕ → ℝ
  | 0, f => f
  | k + 1, f => stage (2 ^ k) (stages k f)

theorem stages_eq (k : ℕ) (f : ℕ → ℝ) : ∀ p : ℕ,
    stages k f p = ∑ q ∈ Finset.range (2 ^ k), sgn k p q * f (p / 2 ^ k * 2 ^ k + q) := by
  induction k with
  | zero => intro p; simp [stages, sgn]
  | succ k ih =>
    intro p
    have hk : 0 < 2 ^ k := by positivity
    have hsplit : p / 2 ^ (k + 1) * 2 ^ (k + 1) = (p / 2 ^ k - p / 2 ^ k % 2) * 2 ^ k := by
      rw [pow_succ, ← Nat.div_div_eq_div_mul]
      have := Nat.div_add_mod (p / 2 ^ k) 2
      rw [show p / 2 ^ k - p / 2 ^ k % 2 = p / 2 ^ k / 2 * 2 by omega]; ring
    have hR : ∑ q ∈ Finset.range (2 ^ (k + 1)), sgn (k + 1) p q * f (p / 2 ^ (k + 1) * 2 ^ (k + 1) + q)
        = (∑ q ∈ Finset.range (2 ^ k), sgn k p q * f ((p / 2 ^ k - p / 2 ^ k % 2) * 2 ^ k + q))
          + (if p / 2 ^ k % 2 = 1 then -1 else 1)
            * ∑ q ∈ Finset.range (2 ^ k), sgn k p q * f ((p / 2 ^ k - p / 2 ^ k % 2) * 2 ^ k + 2 ^ k + q) := by
      rw [hsplit, show 2 ^ (k + 1) = 2 ^ k + 2 ^ k by rw [pow_succ]; omega, Finset.sum_range_add]
      congr 1
      · refine Finset.sum_congr rfl fun q hq => ?_
        have hq := Finset.mem_range.1 hq
        simp [sgn, Nat.div_eq_of_lt hq]
      · rw [Finset.mul_sum]
        refine Finset.sum_congr rfl fun q hq => ?_
        have hq := Finset.mem_range.1 hq
        have h1 : (2 ^ k + q) / 2 ^ k % 2 = 1 := by
          rw [Nat.add_div_left _ hk, Nat.div_eq_of_lt hq]
        have h2 : sgn k p (2 ^ k + q) = sgn k p q := sgn_congr k _ _ _ _ rfl (by simp)
        simp only [sgn, h1, h2, and_true, Nat.add_assoc]
        ring
    rw [hR]
    simp only [stages, stage]
    rcases Nat.mod_two_eq_zero_or_one (p / 2 ^ k) with h0 | h1
    · rw [if_pos h0, ih p, ih (p + 2 ^ k), h0]
      have e2 : (p + 2 ^ k) / 2 ^ k = p / 2 ^ k + 1 := Nat.add_div_right _ hk
      have e3 (q : ℕ) : sgn k (p + 2 ^ k) q = sgn k p q := sgn_congr k _ _ _ _ (by simp) rfl
      simp only [e2, e3, Nat.sub_zero, Nat.add_mul, Nat.one_mul]
      norm_num
    · have hp : 2 ^ k ≤ p := by
        by_contra hlt
        rw [Nat.div_eq_of_lt (by omega)] at h1; omega
      rw [if_neg (by omega), ih p, ih (p - 2 ^ k), h1]
      have hge : 1 ≤ p / 2 ^ k := Nat.pos_of_ne_zero fun h => by rw [h] at h1; omega
      have e2 : (p - 2 ^ k) / 2 ^ k = p / 2 ^ k - 1 := by
        rw [show p - 2 ^ k = p - 2 ^ k * 1 by rw [Nat.mul_one], Nat.sub_mul_div]
      have e3 (q : ℕ) : sgn k (p - 2 ^ k) q = sgn k p q :=
        sgn_congr k _ _ _ _ (by rw [← Nat.mod_eq_sub_mod hp]) rfl
      have e4 : (p / 2 ^ k - 1) * 2 ^ k + 2 ^ k = p / 2 ^ k * 2 ^ k := by
        rw [← Nat.succ_mul]; congr 1; omega
      simp only [e2, e3, e4]
      norm_num
      ring

/-- Eight stages multiply a row of 256 entries by the matrix of signs. -/
theorem stages_eight (f : ℕ → ℝ) (p : ℕ) (hp : p < 256) :
    stages 8 f p = ∑ q ∈ Finset.range 256, sgn 8 p q * f q := by
  have := stages_eq 8 f p
  rw [this]; norm_num [Nat.div_eq_of_lt hp]

/-- A sum over twice as many terms, two at a time. -/
theorem sum_range_two {M : Type} [AddCommMonoid M] (n : ℕ) (f : ℕ → M) :
    ∑ k ∈ Finset.range (2 * n), f k = ∑ k ∈ Finset.range n, (f (2 * k) + f (2 * k + 1)) := by
  induction n with
  | zero => simp
  | succ n ih =>
    rw [show 2 * (n + 1) = 2 * n + 1 + 1 by ring, Finset.sum_range_succ, Finset.sum_range_succ, ih,
      Finset.sum_range_succ, add_assoc]

/-- The extended real of a sum. -/
theorem coe_sum_range (n : ℕ) (f : ℕ → ℝ) :
    ((∑ k ∈ Finset.range n, f k : ℝ) : EReal) = ∑ k ∈ Finset.range n, ((f k : ℝ) : EReal) := by
  induction n with
  | zero => simp
  | succ n ih => rw [Finset.sum_range_succ, Finset.sum_range_succ, EReal.coe_add, ih]

/-! ### The rotated row -/

/-- The single-precision constant both programs multiply by, nearly `1/96`. -/
def c96 : ℝ := 11184811 / 2 ^ 30

/-- The product of block `k` of a row with the matrix of signs. -/
def blockRow (x : ℕ → ℝ) (k p : ℕ) : ℝ := ∑ q ∈ Finset.range 256, sgn 8 p q * x (256 * k + q)

/-- Column `256a + p` of the rotated row. -/
def rot (had : ℕ → ℕ → ℝ) (x : ℕ → ℝ) (a p : ℕ) : ℝ := (∑ k ∈ Finset.range 36, had a k * blockRow x k p) * c96

end Cert.Hand

end
-- ==== Proof.KTile.lean ====
/-
  A tile's rotated rows over the reals: with a finite tile, the sign matrix and a mix matrix made of a finite 36 × 36 matrix,
  the second scratch buffer holds the rotated rows `rot` of Sign.lean.
-/
module

public import proofs.«01_k».proof.Proof.KVal
public import proofs.«01_k».proof.Proof.Sign
public import Idealize.ShloMosaic.Lib.MatmulPlain
public import Idealize.ShloMosaic.Lib.IdealHost

@[expose] public section

set_option maxRecDepth 65536

noncomputable section

namespace Cert.KernelIdeal.Hand

open Cert.KernelIdeal.Gen Cert.Hand
open Idealize.ShloMosaic Idealize.ShloMosaic.TcCoe Idealize.ShloMosaic.Tactic Idealize.ShloMosaic.ValueIdx

/-- A matrix read inside its bounds. -/
theorem rd2_ix2 {a b : ℕ} [NeZero a] [NeZero b] {α : Type} (X : (⟨2, ![a, b]⟩ : Shape).Idx → α) (r : Fin a) (c : Fin b) :
    X (ix2 r c) = rd2 X r.val c.val := rd2_eq X _ rfl rfl

theorem rd2_lt {a b : ℕ} [NeZero a] [NeZero b] {α : Type} (X : (⟨2, ![a, b]⟩ : Shape).Idx → α) {r c : ℕ} (hr : r < a) (hc : c < b) :
    rd2 X r c = X (ix2 ⟨r, hr⟩ ⟨c, hc⟩) := (rd2_ix2 X ⟨r, hr⟩ ⟨c, hc⟩).symm

/-- A matrix product of finite entries. -/
theorem matmul_real {M K N : ℕ} [NeZero M] [NeZero K] [NeZero N] {φ₁ φ₂ : FTy} (prec : Option ContractPrecision)
    (lhs : FVec Ideal ⟨2, ![M, K]⟩ φ₁) (rhs : FVec Ideal ⟨2, ![K, N]⟩ φ₂) {f g : ℕ → ℕ → ℝ} {r c : ℕ} (hr : r < M) (hc : c < N)
    (hf : ∀ k < K, rd2 lhs r k = ((f r k : ℝ) : EReal)) (hg : ∀ k < K, rd2 rhs k c = ((g k c : ℝ) : EReal)) :
    rd2 (FloatOps.matmul (DotDims.plain M K N) prec lhs rhs (constant ⟨2, ![M, N]⟩ .f32 0x00000000#32)) r c
      = ((∑ k ∈ Finset.range K, f r k * g k c : ℝ) : EReal) := by
  rw [rd2_lt _ hr hc, Ideal.matmul_plain_apply, coe_sum_range]
  have h0 : (constant ⟨2, ![M, N]⟩ .f32 0x00000000#32 : FVec Ideal ⟨2, ![M, N]⟩ .f32) (ix2 ⟨r, hr⟩ ⟨c, hc⟩) = 0 := Ideal.ofBits_zero_f32
  rw [h0, zero_add, ← Fin.sum_univ_eq_sum_range (fun k => ((f r k * g k c : ℝ) : EReal))]
  refine Finset.sum_congr rfl fun k _ => ?_
  rw [EReal.coe_mul]
  exact congrArg₂ (· * ·) ((rd2_ix2 lhs _ _).trans (hf k.val k.isLt)) ((rd2_ix2 rhs _ _).trans (hg k.val k.isLt))

section Tile

variable {x : Vec Ideal S256x9216 .bf16} {hh : Vec Ideal S256x256 .bf16} {m1 m2 m3 : FVec Ideal S72x216 .bf16}
variable {xr : ℕ → ℕ → ℝ} {had : ℕ → ℕ → ℝ}

/-- The products of a block of columns with the sign matrix. -/
theorem U_real (hx : ∀ r c, rd2 x r c = ((xr r c : ℝ) : EReal)) (hs : ∀ q < 256, ∀ p < 256, rd2 hh q p = ((sgn 8 p q : ℝ) : EReal))
    (t k : ℕ) {r p : ℕ} (hr : r < 32) (hp : p < 256) :
    rd2 (U x hh t k) r p = ((blockRow (xr (32 * t + r)) k p : ℝ) : EReal) := by
  have := matmul_real (M := 32) (K := 256) (N := 256) (φ₁ := .bf16) (φ₂ := .bf16) none (xt x ![32 * t, 256 * k]) hh (f := fun r q => xr (32 * t + r) (256 * k + q))
    (g := fun q p => sgn 8 p q) hr hp (fun q hq => by
      rw [rd2_lt (xt x ![32 * t, 256 * k]) hr hq]; exact hx _ _) (fun q hq => hs q hq p hp)
  have e : shapeCast S32x256 (xt x ![32 * t, 256 * k]) shapeCasts_S32x256_S32x256 = xt x ![32 * t, 256 * k] := by
    funext i
    have h : Shape.reshapeEquiv shapeCasts_S32x256_S32x256 i = i := Shape.reshapeEquiv_eq_of_rowMajor _ rfl
    show xt x ![32 * t, 256 * k] _ = _
    rw [h]
  have e2 : U x hh t k = FloatOps.matmul (φ₁ := .bf16) (φ₂ := .bf16) (DotDims.plain 32 256 256) none (xt x ![32 * t, 256 * k]) hh (constant ⟨2, ![32, 256]⟩ .f32 0x00000000#32) := by
    show FloatOps.matmul (φ₁ := .bf16) (φ₂ := .bf16) (DotDims.plain 32 256 256) none (shapeCast S32x256 (xt x ![32 * t, 256 * k]) shapeCasts_S32x256_S32x256) hh (constant ⟨2, ![32, 256]⟩ .f32 0x00000000#32) = _
    rw [e]
  rw [e2, this]
  unfold blockRow
  congr 1
  exact Finset.sum_congr rfl fun q _ => mul_comm _ _

/-- Two pieces side by side. -/
def stack2 (v w : Vec Ideal S72x128 .f32) : FVec Ideal S72x256 .f32 :=
  concatenate S72x256 1 [⟨S72x128, v⟩, ⟨S72x128, w⟩] concatenates_S72x128_S72x128_S72x256_d1

/-- The parts of a matrix, one under the other. -/
def stack3 (m : FVec Ideal S72x256 .f32) : FVec Ideal S216x256 .f32 :=
  concatenate S216x256 0 [⟨S72x256, m⟩, ⟨S72x256, subf m m⟩, ⟨S72x256, subf (subf m m) (subf m m)⟩] concatenates_S72x256_S72x256_S72x256_S216x256_d0

/-- Two pieces side by side, by entries. -/
theorem stacked_real {v w : Vec Ideal S72x128 .f32} {z : ℕ → ℕ → ℝ}
    (hv : ∀ k < 72, ∀ c < 128, rd2 v k c = ((z k c : ℝ) : EReal)) (hw : ∀ k < 72, ∀ c < 128, rd2 w k c = ((z k (128 + c) : ℝ) : EReal))
    {r c : ℕ} (hr : r < 72) (hc : c < 256) :
    rd2 (stack2 v w) r c = ((z r c : ℝ) : EReal) := by
  rw [rd2_lt (stack2 v w) hr hc]
  unfold stack2
  by_cases h : c < 128
  · rw [concatenate_apply_piece (t := S72x256) 1 [⟨S72x128, v⟩, ⟨S72x128, w⟩] concatenates_S72x128_S72x128_S72x256_d1 (ix2 ⟨r, hr⟩ ⟨c, hc⟩) 0 Nat.zero_lt_two S72x128 v rfl rfl 0 rfl (ix2 ⟨r, hr⟩ ⟨c, h⟩)
      (fun b hb => by match b with | ⟨0, _⟩ => rfl | ⟨1, _⟩ => exact absurd rfl hb) (by show 0 + c = c; omega)]
    exact (rd2_ix2 v _ _).trans (hv r hr c h)
  · rw [concatenate_apply_piece (t := S72x256) 1 [⟨S72x128, v⟩, ⟨S72x128, w⟩] concatenates_S72x128_S72x128_S72x256_d1 (ix2 ⟨r, hr⟩ ⟨c, hc⟩) 1 Nat.one_lt_two S72x128 w rfl rfl 128 rfl (ix2 ⟨r, hr⟩ ⟨c - 128, by omega⟩)
      (fun b hb => by match b with | ⟨0, _⟩ => rfl | ⟨1, _⟩ => exact absurd rfl hb) (by show 128 + (c - 128) = c; omega)]
    rw [show z r c = z r (128 + (c - 128)) by rw [Nat.add_sub_cancel' (by omega)]]
    exact (rd2_ix2 w _ _).trans (hw r hr (c - 128) (by omega))

/-- The three parts of a finite matrix: itself, zero and zero. -/
theorem parts_real {m : FVec Ideal S72x256 .f32} {z : ℕ → ℕ → ℝ} (hm : ∀ r < 72, ∀ c < 256, rd2 m r c = ((z r c : ℝ) : EReal))
    {r c : ℕ} (hr : r < 216) (hc : c < 256) : rd2 (stack3 m) r c
      = (((if r < 72 then z r c else 0 : ℝ)) : EReal) := by
  have h0 : ∀ r < 72, ∀ c < 256, rd2 (subf m m) r c = (0 : EReal) := fun r hr c hc => by
    show (rd2 m r c : EReal) - rd2 m r c = 0
    rw [hm r hr c hc, ← EReal.coe_sub, sub_self, EReal.coe_zero]
  rw [rd2_lt (stack3 m) hr hc]
  unfold stack3
  by_cases h : r < 72
  · rw [concatenate_apply_piece (t := S216x256) 0 [⟨S72x256, m⟩, ⟨S72x256, subf m m⟩, ⟨S72x256, subf (subf m m) (subf m m)⟩] concatenates_S72x256_S72x256_S72x256_S216x256_d0 (ix2 ⟨r, hr⟩ ⟨c, hc⟩) 0 (by show 0 < 3; omega) S72x256 m rfl rfl 0 rfl (ix2 ⟨r, h⟩ ⟨c, hc⟩)
      (fun b hb => by match b with | ⟨0, _⟩ => exact absurd rfl hb | ⟨1, _⟩ => rfl) (by show 0 + r = r; omega), if_pos h]
    exact (rd2_ix2 m _ _).trans (hm r h c hc)
  · rw [if_neg h, EReal.coe_zero]
    by_cases h' : r < 144
    · rw [concatenate_apply_piece (t := S216x256) 0 [⟨S72x256, m⟩, ⟨S72x256, subf m m⟩, ⟨S72x256, subf (subf m m) (subf m m)⟩] concatenates_S72x256_S72x256_S72x256_S216x256_d0 (ix2 ⟨r, hr⟩ ⟨c, hc⟩) 1 (by show 1 < 3; omega) S72x256 (subf m m) rfl rfl 72 rfl (ix2 ⟨r - 72, by omega⟩ ⟨c, hc⟩)
        (fun b hb => by match b with | ⟨0, _⟩ => exact absurd rfl hb | ⟨1, _⟩ => rfl) (by show 72 + (r - 72) = r; omega)]
      exact (rd2_ix2 (subf m m) _ _).trans (h0 _ (by show r - 72 < 72; omega) c hc)
    · rw [concatenate_apply_piece (t := S216x256) 0 [⟨S72x256, m⟩, ⟨S72x256, subf m m⟩, ⟨S72x256, subf (subf m m) (subf m m)⟩] concatenates_S72x256_S72x256_S72x256_S216x256_d0 (ix2 ⟨r, hr⟩ ⟨c, hc⟩) 2 (by show 2 < 3; omega) S72x256 (subf (subf m m) (subf m m)) rfl rfl 144 rfl (ix2 ⟨r - 144, by omega⟩ ⟨c, hc⟩)
        (fun b hb => by match b with | ⟨0, _⟩ => exact absurd rfl hb | ⟨1, _⟩ => rfl) (by show 144 + (r - 144) = r; omega)]
      refine (rd2_ix2 (subf (subf m m) (subf m m)) _ _).trans ?_
      show (rd2 (subf m m) (r - 144) c : EReal) - rd2 (subf m m) (r - 144) c = 0
      rw [h0 _ (by omega) c hc, sub_zero]

/-- The mix of two pieces: only the first part of the mix matrix, and of the pieces, counts. -/
theorem mixed_real {v w : Vec Ideal S72x128 .f32} {z mx : ℕ → ℕ → ℝ}
    (h1 : ∀ r < 72, ∀ k < 216, rd2 m1 r k = ((mx r k : ℝ) : EReal)) (h2 : ∀ r < 72, ∀ k < 216, rd2 m2 r k = (0 : EReal))
    (h3 : ∀ r < 72, ∀ k < 216, rd2 m3 r k = (0 : EReal))
    (hv : ∀ k < 72, ∀ c < 128, rd2 v k c = ((z k c : ℝ) : EReal)) (hw : ∀ k < 72, ∀ c < 128, rd2 w k c = ((z k (128 + c) : ℝ) : EReal))
    {r c : ℕ} (hr : r < 72) (hc : c < 256) :
    rd2 (k0_pay365 m1 m2 m3 v w) r c = ((∑ k ∈ Finset.range 72, mx r k * z k c : ℝ) : EReal) := by
  have hR : ∀ k < 216, rd2 (stack3 (stack2 v w)) k c = (((if k < 72 then z k c else 0 : ℝ)) : EReal) :=
    fun k hk => parts_real (fun r hr c hc => stacked_real hv hw hr hc) hk hc
  have p1 := matmul_real (M := 72) (K := 216) (N := 256) (φ₁ := .bf16) (φ₂ := .bf16) none m1 (stack3 (stack2 v w)) (f := mx) (g := fun k c => if k < 72 then z k c else 0) hr hc (fun k hk => h1 r hr k hk) hR
  have p2 := matmul_real (M := 72) (K := 216) (N := 256) (φ₁ := .bf16) (φ₂ := .bf16) none m2 (stack3 (stack2 v w)) (f := fun _ _ => 0) (g := fun k c => if k < 72 then z k c else 0) hr hc (fun k hk => (h2 r hr k hk).trans EReal.coe_zero.symm) hR
  have p3 := matmul_real (M := 72) (K := 216) (N := 256) (φ₁ := .bf16) (φ₂ := .bf16) none m3 (stack3 (stack2 v w)) (f := fun _ _ => 0) (g := fun k c => if k < 72 then z k c else 0) hr hc (fun k hk => (h3 r hr k hk).trans EReal.coe_zero.symm) hR
  refine (congrArg₂ (· + ·) (congrArg₂ (· + ·) p1 p2) p3 : _ = (_ : EReal)).trans ?_
  rw [← EReal.coe_add, ← EReal.coe_add]
  congr 1
  rw [show (216 : ℕ) = 72 + 144 from rfl]
  simp only [Finset.sum_range_add, zero_mul, Finset.sum_const_zero, add_zero]
  rw [Finset.sum_eq_zero (s := Finset.range 144) (fun k _ => by rw [if_neg (by omega), mul_zero]), add_zero]
  exact Finset.sum_congr rfl fun k hk => by rw [if_pos (Finset.mem_range.1 hk)]

/-- The mix matrix: `had` with each entry times the 2 × 2 identity. -/
def mixOf (had : ℕ → ℕ → ℝ) (r k : ℕ) : ℝ := had (r / 2) (k / 2) * (if r % 2 = k % 2 then 1 else 0)

/-- The second scratch buffer holds the rotated rows. -/
theorem G10_real (hx : ∀ r c, rd2 x r c = ((xr r c : ℝ) : EReal)) (hs : ∀ q < 256, ∀ p < 256, rd2 hh q p = ((sgn 8 p q : ℝ) : EReal))
    (h1 : ∀ r < 72, ∀ k < 216, rd2 m1 r k = ((mixOf had r (k % 72) : ℝ) : EReal)) (h2 : ∀ r < 72, ∀ k < 216, rd2 m2 r k = (0 : EReal))
    (h3 : ∀ r < 72, ∀ k < 216, rd2 m3 r k = (0 : EReal)) (t : ℕ) {b a s l : ℕ} (hb : b < 8) (ha : a < 36) (hs8 : s < 8) (hl : l < 128) :
    (G10 x hh m1 m2 m3 t b (8 * a + s) l : EReal) = ((rot had (xr (32 * t + 8 * (b / 2) + s)) a (128 * (b % 2) + l) : ℝ) : EReal) := by
  have hp : 128 * (b % 2) + l < 256 := by omega
  -- row `k` of the strided pieces, over both halves of the columns
  let z : ℕ → ℕ → ℝ := fun k c => blockRow (xr (32 * t + (8 * (b / 2) + (s % 4 + 4 * k) % 8))) ((s % 4 + 4 * k) / 8) c
  have hv : ∀ j < 2, ∀ k < 72, ∀ c < 128, rd2 (U9 x hh t (2 * (b / 2) + j) (s % 4)) k c = ((z k (128 * j + c) : ℝ) : EReal) := by
    intro j hj k hk c hc
    rw [rd2_lt _ hk hc]
    show rd2 (U x hh t ((s % 4 + 4 * k) / 8)) (8 * ((2 * (b / 2) + j) / 2) + (s % 4 + 4 * k) % 8) (128 * ((2 * (b / 2) + j) % 2) + c) = _
    rw [show (2 * (b / 2) + j) / 2 = b / 2 by omega, show (2 * (b / 2) + j) % 2 = j by omega]
    exact U_real hx hs t _ (by omega) (by omega)
  have hM := mixed_real (m1 := m1) (m2 := m2) (m3 := m3) (z := z) h1 h2 h3
    (fun k hk c hc => by have := hv 0 (by omega) k hk c hc; simpa using this) (fun k hk c hc => by have := hv 1 (by omega) k hk c hc; simpa using this)
    (r := 2 * a + s / 4) (c := 128 * (b % 2) + l) (by omega) hp
  have hc : (Ideal.ofBits .f32 0x3C2AAAAB#32 : EReal) = ((c96 : ℝ) : EReal) := by
    simp [Ideal.ofBits, Ideal.ieee, c96, -EReal.coe_mul]; norm_num
  show (rd2 (M x hh m1 m2 m3 t (b / 2) ((8 * a + s) % 4)) ((8 * a + s) / 4) (128 * (b % 2) + l) : EReal) * Ideal.ofBits .f32 0x3C2AAAAB#32 = _
  rw [show (8 * a + s) % 4 = s % 4 by omega, show (8 * a + s) / 4 = 2 * a + s / 4 by omega]
  refine (congrArg₂ (· * ·) hM hc : _ = (_ : EReal)).trans ?_
  rw [← EReal.coe_mul]
  congr 1
  unfold rot
  congr 1
  rw [show (72 : ℕ) = 2 * 36 from rfl, sum_range_two]
  refine Finset.sum_congr rfl fun k hk => ?_
  have hk := Finset.mem_range.1 hk
  have hd : s / 4 < 2 := by omega
  unfold mixOf
  rw [show 2 * k % 72 = 2 * k by omega, show (2 * k + 1) % 72 = 2 * k + 1 by omega, show (2 * a + s / 4) / 2 = a by omega, show 2 * k / 2 = k by omega, show (2 * k + 1) / 2 = k by omega,
    show (2 * a + s / 4) % 2 = s / 4 by omega, show 2 * k % 2 = 0 by omega, show (2 * k + 1) % 2 = 1 by omega]
  have hzk : z (2 * k + s / 4) (128 * (b % 2) + l) = blockRow (xr (32 * t + 8 * (b / 2) + s)) k (128 * (b % 2) + l) := by
    show blockRow (xr (32 * t + (8 * (b / 2) + (s % 4 + 4 * (2 * k + s / 4)) % 8))) ((s % 4 + 4 * (2 * k + s / 4)) / 8) _ = _
    rw [show (s % 4 + 4 * (2 * k + s / 4)) % 8 = s by omega, show (s % 4 + 4 * (2 * k + s / 4)) / 8 = k by omega, ← Nat.add_assoc]
  rw [← hzk]
  rcases (show s / 4 = 0 ∨ s / 4 = 1 by omega) with h | h
  · rw [h]; simp
  · rw [h]; simp

end Tile

end Cert.KernelIdeal.Hand

end
-- ==== Proof.Scale.lean ====
/-
  The power-of-two scale over the extended reals. `pw n` is the float whose exponent field is `n`; the kernel's search finds
  the `n` with `pw n ≤ v < pw (n + 1)`, its scale is `pw (n + 1)` (1 at zero), and its other factor is the reciprocal of that.
  The least of the powers strictly above `v` is the same number.
-/
module

public import proofs.«01_k».proof.Proof.KTile

@[expose] public section

set_option maxRecDepth 65536

noncomputable section

namespace Cert.KernelIdeal.Hand

open Cert.KernelIdeal.Gen Cert.Hand
open Idealize.ShloMosaic Idealize.ShloMosaic.TcCoe Idealize.ShloMosaic.Tactic Idealize.ShloMosaic.ValueIdx

/-- The single-precision number whose exponent field is `n` and whose fraction is zero. -/
def pw (n : ℕ) : EReal := if n = 0 then 0 else if n < 255 then (((2 : ℝ) ^ ((n : ℤ) - 127) : ℝ) : EReal) else ⊤

/-- The number a positive single-precision word with zero fraction stands for. -/
theorem ieee_pw {b : BitVec 32} {n : ℕ} (h : n < 256) (h1 : (b.extractLsb' (8 + 23) 1 == 1#1) = false) (h2 : (b.extractLsb' 23 8).toNat = n)
    (h3 : (b.extractLsb' 0 23).toNat = 0) : Ideal.ieee 8 23 b = pw n := by
  unfold Ideal.ieee pw
  simp only [h1, h2, h3]
  by_cases hz : n = 0
  · subst hz; simp
  · by_cases ht : n < 255
    · rw [if_neg (show ¬ n = 2 ^ 8 - 1 by omega), if_neg hz, if_neg hz, if_pos ht]
      congr 1
      rw [if_neg (by simp), one_mul, show ((n : ℤ) - 127) = ((n : ℤ) - (2 ^ (8 - 1) - 1) - (23 : ℕ)) + (23 : ℕ) by norm_num, zpow_add₀ (by norm_num), mul_comm]
      norm_num
    · rw [if_pos (show n = 2 ^ 8 - 1 by omega), if_neg hz, if_neg ht]; simp

theorem words_pw : ∀ n : Fin 256, ((BitVec.ofNat 32 n.val <<< 23).extractLsb' (8 + 23) 1 == 1#1) = false
    ∧ ((BitVec.ofNat 32 n.val <<< 23).extractLsb' 23 8).toNat = n.val ∧ ((BitVec.ofNat 32 n.val <<< 23).extractLsb' 0 23).toNat = 0 := by
  decide +kernel

theorem ofBits_pw {n : ℕ} (h : n < 256) : Ideal.ofBits .f32 (BitVec.ofNat 32 n <<< 23) = pw n :=
  ieee_pw h (words_pw ⟨n, h⟩).1 (words_pw ⟨n, h⟩).2.1 (words_pw ⟨n, h⟩).2.2

theorem pw_real {n : ℕ} (h0 : 0 < n) (h : n < 255) : pw n = (((2 : ℝ) ^ ((n : ℤ) - 127) : ℝ) : EReal) := by
  unfold pw; rw [if_neg (by omega), if_pos h]

theorem pw_mono {a b : ℕ} (h : a ≤ b) : pw a ≤ pw b := by
  by_cases ha : a = 0
  · subst ha
    unfold pw
    rw [if_pos rfl]
    split
    · exact le_rfl
    · split
      · exact EReal.coe_nonneg.2 (by positivity)
      · exact le_top
  · by_cases hb : b < 255
    · rw [pw_real (by omega) (by omega), pw_real (by omega) hb]
      exact EReal.coe_le_coe_iff.2 (zpow_le_zpow_right₀ (by norm_num) (by omega))
    · have : pw b = ⊤ := by unfold pw; rw [if_neg (by omega), if_neg hb]
      rw [this]; exact le_top

/-- A step of the search keeps the interval that holds `v`, and halves it. -/
theorem stepN_real {v : FVec Ideal S8x1 .f32} {n : IVec S8x1 32} {i : S8x1.Idx} {b k : ℕ} (hb : 0 < b)
    (h : n i = BitVec.ofNat 32 k ∧ pw k ≤ v i ∧ v i < pw (k + (b + b)) ∧ k + (b + b) ≤ 256) :
    ∃ k', stepN (BitVec.ofNat 32 b) v n i = BitVec.ofNat 32 k' ∧ pw k' ≤ v i ∧ v i < pw (k' + b) ∧ k' + b ≤ 256 := by
  obtain ⟨hn, hlo, hhi, hk⟩ := h
  have he : stepN (BitVec.ofNat 32 b) v n i = if v i < pw (k + b) then BitVec.ofNat 32 k else BitVec.ofNat 32 (k + b) := by
    show (if BitVec.ofBool (decide (v i < Ideal.ofBits .f32 ((n i + BitVec.ofNat 32 b) <<< (23#32)))) = 1#1 then n i else n i + BitVec.ofNat 32 b) = _
    have e : (n i + BitVec.ofNat 32 b) <<< (23#32) = BitVec.ofNat 32 (k + b) <<< 23 := by
      rw [hn, ← BitVec.ofNat_add]; rfl
    rw [e, ofBits_pw (by omega), hn, ← BitVec.ofNat_add]
    by_cases h : v i < pw (k + b) <;> simp [h]
  rw [he]
  by_cases h : v i < pw (k + b)
  · exact ⟨k, by rw [if_pos h], hlo, h, by omega⟩
  · exact ⟨k + b, by rw [if_neg h], not_lt.1 h, by rw [Nat.add_assoc]; exact hhi, by omega⟩

/-- What the search finds. -/
theorem expN_real {v : FVec Ideal S8x1 .f32} {i : S8x1.Idx} (h0 : 0 ≤ (v i : EReal)) (hlt : (v i : EReal) < pw 253) :
    ∃ k ≤ 252, expN v i = BitVec.ofNat 32 k ∧ pw k ≤ v i ∧ v i < pw (k + 1) := by
  have s0 : (broadcast S8x1 0#32 : IVec S8x1 32) i = BitVec.ofNat 32 0 ∧ pw 0 ≤ v i ∧ v i < pw (0 + (128 + 128)) ∧ 0 + (128 + 128) ≤ 256 :=
    ⟨rfl, h0, lt_of_lt_of_le hlt (pw_mono (by norm_num)), le_rfl⟩
  obtain ⟨k1, s1⟩ := stepN_real (b := 128) (by norm_num) s0
  obtain ⟨k2, s2⟩ := stepN_real (b := 64) (by norm_num) s1
  obtain ⟨k3, s3⟩ := stepN_real (b := 32) (by norm_num) s2
  obtain ⟨k4, s4⟩ := stepN_real (b := 16) (by norm_num) s3
  obtain ⟨k5, s5⟩ := stepN_real (b := 8) (by norm_num) s4
  obtain ⟨k6, s6⟩ := stepN_real (b := 4) (by norm_num) s5
  obtain ⟨k7, s7⟩ := stepN_real (b := 2) (by norm_num) s6
  obtain ⟨k, hk, hlo, hhi, -⟩ := stepN_real (b := 1) (by norm_num) s7
  refine ⟨k, ?_, hk, hlo, hhi⟩
  by_contra hc
  exact absurd (lt_of_lt_of_le hlt ((pw_mono (show 253 ≤ k by omega)).trans hlo)) (lt_irrefl _)

/-- The scale and the reciprocal: `pw (k + 1)` for the interval that holds `v`, or 1 at zero. -/
theorem scale_real {v : FVec Ideal S8x1 .f32} {i : S8x1.Idx} (h0 : 0 ≤ (v i : EReal)) (hlt : (v i : EReal) < pw 253) :
    ∃ k ≤ 252, pw k ≤ v i ∧ v i < pw (k + 1) ∧ (sclOf v i : EReal) = (if v i = 0 then 1 else pw (k + 1))
      ∧ (invOf v i : EReal) = Ideal.div 1 (sclOf v i) := by
  obtain ⟨k, hk, hn, hlo, hhi⟩ := expN_real h0 hlt
  have hE : expE v i = if v i = 0 then 0#32 else BitVec.ofNat 32 k - 126#32 := by
    show (if BitVec.ofBool (decide (v i = Ideal.ofBits .f32 0x00000000#32)) = 1#1 then 0#32 else expN v i - 126#32) = _
    rw [Ideal.ofBits_zero_f32, hn]
    by_cases h : v i = 0 <;> simp [h]
  have hS : (sclOf v i : EReal) = if v i = 0 then 1 else pw (k + 1) := by
    show Ideal.ofBits .f32 ((127#32 + expE v i) <<< (23#32)) = _
    rw [hE]
    by_cases h : v i = 0
    · rw [if_pos h, if_pos h]
      exact (ofBits_pw (n := 127) (by norm_num)).trans (by rw [pw_real (by norm_num) (by norm_num)]; norm_num)
    · rw [if_neg h, if_neg h]
      have e : (127#32 + (BitVec.ofNat 32 k - 126#32)) <<< (23#32) = BitVec.ofNat 32 (k + 1) <<< 23 :=
        (by decide +kernel : ∀ k : Fin 253, (127#32 + (BitVec.ofNat 32 k.val - 126#32)) <<< (23#32) = BitVec.ofNat 32 (k.val + 1) <<< 23) ⟨k, by omega⟩
      rw [e, ofBits_pw (by omega)]
  refine ⟨k, hk, hlo, hhi, hS, ?_⟩
  show Ideal.ofBits .f32 ((127#32 - expE v i) <<< (23#32)) = _
  rw [hS, hE]
  by_cases h : v i = 0
  · rw [if_pos h, if_pos h]
    refine (ofBits_pw (n := 127) (by norm_num)).trans ?_
    rw [pw_real (by norm_num) (by norm_num), Ideal.div, if_neg one_ne_zero, one_mul]
    have : ((1 : EReal))⁻¹ = 1 := by rw [← EReal.coe_one, ← EReal.coe_inv, inv_one]
    rw [this]; norm_num
  · rw [if_neg h, if_neg h]
    have e : (127#32 - (BitVec.ofNat 32 k - 126#32)) <<< (23#32) = BitVec.ofNat 32 (253 - k) <<< 23 :=
      (by decide +kernel : ∀ k : Fin 253, (127#32 - (BitVec.ofNat 32 k.val - 126#32)) <<< (23#32) = BitVec.ofNat 32 (253 - k.val) <<< 23) ⟨k, by omega⟩
    rw [e, ofBits_pw (by omega), pw_real (by omega) (by omega), pw_real (by omega) (by omega), Ideal.div, if_neg, one_mul, ← EReal.coe_inv, ← zpow_neg]
    · congr 2
      push_cast [Nat.cast_sub (show k ≤ 253 by omega)]
      ring
    · rw [← EReal.coe_zero]
      exact fun h => absurd (EReal.coe_eq_coe_iff.1 h) (by positivity)

/-- The least of the powers strictly above `v`. -/
theorem least_pw {v A : EReal} {k : ℕ} (hk : k ≤ 252) (hlo : pw k ≤ v) (hhi : v < pw (k + 1))
    (hA : ∀ B, B ≤ A ↔ ∀ j < 254, B ≤ if v < pw (j + 1) then pw (j + 1) else ⊤) : A = pw (k + 1) := by
  refine le_antisymm ?_ ((hA _).2 fun j hj => ?_)
  · have := (hA A).1 le_rfl k (by omega)
    rwa [if_pos hhi] at this
  · split
    · rename_i h
      refine pw_mono ?_
      by_contra hc
      exact absurd (lt_of_lt_of_le h ((pw_mono (show j + 1 ≤ k by omega)).trans hlo)) (lt_irrefl _)
    · exact le_top

end Cert.KernelIdeal.Hand

end
-- ==== Proof.Spec.lean ====
/-
  What both programs compute for a row, over the extended reals: the largest magnitude `top`, the scale `scaleOf` (the least
  power of two above the largest magnitude over 448, or 1 for a zero row), the codes `codeOf`, and the projection `outOf`.
-/
module

public import proofs.«01_k».proof.Proof.Scale

@[expose] public section

set_option maxRecDepth 65536

noncomputable section

namespace Cert.Hand

open Cert.KernelIdeal.Hand
open Idealize.ShloMosaic

/-- The rotated row by its 9216 columns. -/
def rowOf (had : ℕ → ℕ → ℝ) (x : ℕ → ℝ) (j : ℕ) : ℝ := rot had x (j / 256) (j % 256)

/-- The largest magnitude of a row. -/
def top (Y : ℕ → ℝ) : EReal := (Finset.range 9216).sup fun j => ((|Y j| : ℝ) : EReal)

theorem top_le (Y : ℕ → ℝ) (B : EReal) : top Y ≤ B ↔ ∀ j < 9216, ((|Y j| : ℝ) : EReal) ≤ B := by
  unfold top; rw [Finset.sup_le_iff]; simp only [Finset.mem_range]

theorem eq_top {Y : ℕ → ℝ} {A : EReal} (h : ∀ B, A ≤ B ↔ ∀ j < 9216, ((|Y j| : ℝ) : EReal) ≤ B) : A = top Y :=
  le_antisymm ((h _).2 ((top_le Y _).1 le_rfl)) ((top_le Y _).2 ((h _).1 le_rfl))

/-- The single-precision constant both programs multiply by, nearly `1/448`. -/
def c448 : ℝ := 9586981 / 2 ^ 32

theorem ofBits_c448 : Ideal.ofBits .f32 0x3B124925#32 = ((c448 : ℝ) : EReal) := by
  simp [Ideal.ofBits, Ideal.ieee, c448, -EReal.coe_mul]; norm_num

theorem ofBits_c96 : Ideal.ofBits .f32 0x3C2AAAAB#32 = ((c96 : ℝ) : EReal) := by
  simp [Ideal.ofBits, Ideal.ieee, c96, -EReal.coe_mul]; norm_num

/-- What the scale of a row must exceed. -/
def bound (Y : ℕ → ℝ) : EReal := top Y * ((c448 : ℝ) : EReal)

/-- The scale of a row. -/
def scaleOf (Y : ℕ → ℝ) : EReal :=
  if top Y = 0 then 1 else (Finset.range 254).inf fun j => if bound Y < pw (j + 1) then pw (j + 1) else ⊤

/-- The code of column `j` of a row. -/
def codeOf (Y : ℕ → ℝ) (j : ℕ) : EReal :=
  min (Ideal.ofBits .f32 0x43E00000#32) (max (Ideal.ofBits .f32 0xC3E00000#32) (((Y j : ℝ) : EReal) * Ideal.div 1 (scaleOf Y)))

/-- The projection of a row on a column `w` with scale `ws`. -/
def outOf (Y : ℕ → ℝ) (w : ℕ → EReal) (ws : EReal) : EReal :=
  (∑ j ∈ Finset.range 9216, codeOf Y j * w j) * scaleOf Y * ws

/-! ### How large a rotated row is -/

theorem abs_sgn (k p q : ℕ) : |sgn k p q| = 1 := by
  induction k with
  | zero => simp [sgn]
  | succ k ih => simp only [sgn, abs_mul, ih]; split <;> simp

theorem abs_blockRow {x : ℕ → ℝ} {X : ℝ} (hx : ∀ c, |x c| ≤ X) (k p : ℕ) : |blockRow x k p| ≤ 256 * X := by
  unfold blockRow
  refine (Finset.abs_sum_le_sum_abs _ _).trans ((Finset.sum_le_card_nsmul _ _ X fun q _ => ?_).trans (by simp))
  rw [abs_mul, abs_sgn, one_mul]; exact hx _

theorem abs_rowOf {had : ℕ → ℕ → ℝ} {x : ℕ → ℝ} {X : ℝ} (hh : ∀ a k, |had a k| ≤ 1) (hx : ∀ c, |x c| ≤ X) (j : ℕ) :
    |rowOf had x j| ≤ 9216 * X * c96 := by
  unfold rowOf rot
  have hc : (0 : ℝ) ≤ c96 := by unfold c96; norm_num
  rw [abs_mul, abs_of_nonneg hc]
  refine mul_le_mul_of_nonneg_right ?_ hc
  refine (Finset.abs_sum_le_sum_abs _ _).trans ((Finset.sum_le_card_nsmul _ _ (256 * X) fun k _ => ?_).trans ?_)
  · rw [abs_mul]
    calc |had (j / 256) k| * |blockRow x k (j % 256)| ≤ 1 * |blockRow x k (j % 256)| :=
          mul_le_mul_of_nonneg_right (hh _ _) (abs_nonneg _)
      _ ≤ 256 * X := by rw [one_mul]; exact abs_blockRow hx _ _
  · simp only [Finset.card_range, nsmul_eq_mul]
    push_cast
    rw [← mul_assoc]
    norm_num

/-- The largest finite magnitude of the input's format. -/
def xMax : ℝ := 2 ^ 128 - 2 ^ 120

/-- A finite row's largest magnitude is finite, and small enough for the scale and its reciprocal to be powers of two. -/
theorem top_real {had : ℕ → ℕ → ℝ} {x : ℕ → ℝ} (hh : ∀ a k, |had a k| ≤ 1) (hx : ∀ c, |x c| ≤ xMax) :
    ∃ a : ℝ, 0 ≤ a ∧ top (rowOf had x) = (a : EReal) ∧ bound (rowOf had x) = ((a * c448 : ℝ) : EReal)
      ∧ 0 ≤ bound (rowOf had x) ∧ bound (rowOf had x) < pw 253 := by
  have h0 : ((0 : ℝ) : EReal) ≤ top (rowOf had x) :=
    (EReal.coe_le_coe_iff.2 (abs_nonneg (rowOf had x 0))).trans ((top_le _ _).1 le_rfl 0 (by norm_num))
  have h1 : top (rowOf had x) ≤ ((9216 * xMax * c96 : ℝ) : EReal) :=
    (top_le _ _).2 fun j _ => EReal.coe_le_coe_iff.2 (abs_rowOf hh hx j)
  obtain ⟨a, ha⟩ : ∃ a : ℝ, top (rowOf had x) = (a : EReal) := by
    refine ⟨(top (rowOf had x)).toReal, (EReal.coe_toReal ?_ ?_).symm⟩
    · exact fun h => absurd (h ▸ h1) (not_le.2 (EReal.coe_lt_top _))
    · exact fun h => absurd (h ▸ h0) (not_le.2 (EReal.bot_lt_coe _))
  rw [ha] at h0 h1
  have h0 := EReal.coe_le_coe_iff.1 h0
  have h1 := EReal.coe_le_coe_iff.1 h1
  have hb : bound (rowOf had x) = ((a * c448 : ℝ) : EReal) := by unfold bound; rw [ha, EReal.coe_mul]
  have hc : (0 : ℝ) < c448 := by unfold c448; norm_num
  refine ⟨a, h0, ha, hb, ?_, ?_⟩
  · rw [hb, ← EReal.coe_zero]; exact EReal.coe_le_coe_iff.2 (mul_nonneg h0 hc.le)
  · rw [hb, pw_real (by norm_num) (by norm_num)]
    refine EReal.coe_lt_coe_iff.2 (lt_of_le_of_lt (mul_le_mul_of_nonneg_right h1 hc.le) ?_)
    unfold xMax c96 c448; norm_num

/-- The scale by the interval of powers of two that holds the bound. -/
theorem scaleOf_eq {Y : ℕ → ℝ} {k : ℕ} (hk : k ≤ 252) (hlo : pw k ≤ bound Y) (hhi : bound Y < pw (k + 1)) :
    scaleOf Y = if top Y = 0 then 1 else pw (k + 1) := by
  unfold scaleOf
  by_cases h : top Y = 0
  · rw [if_pos h, if_pos h]
  · rw [if_neg h, if_neg h]
    refine least_pw hk hlo hhi fun B => ?_
    rw [Finset.le_inf_iff]; simp only [Finset.mem_range]

end Cert.Hand

end
-- ==== Proof.KSpec.lean ====
/-
  A tile's scales and codes are the row specification's (Spec.lean), when the tile is finite.
-/
module

public import proofs.«01_k».proof.Proof.Spec
public import proofs.«01_k».proof.Proof.KOut
public import Idealize.ShloMosaic.Lib.ValueLayoutCasts

@[expose] public section

set_option maxRecDepth 65536

noncomputable section

namespace Cert.KernelIdeal.Hand

open Cert.KernelIdeal.Gen Cert.Hand
open Idealize.ShloMosaic Idealize.ShloMosaic.TcCoe Idealize.ShloMosaic.Tactic Idealize.ShloMosaic.ValueIdx

/-- The magnitude of a finite number. -/
theorem abs_real (a : ℝ) : max (a : EReal) (-(a : EReal)) = ((|a| : ℝ) : EReal) := by
  rw [← EReal.coe_neg]
  exact ((EReal.coe_strictMono.monotone).map_max (a := a) (b := -a)).symm

/-- A maximum over one axis of a matrix is bounded where every entry is. -/
theorem fold_max_le {n : ℕ} (f : Fin n → EReal) (B : EReal) :
    (Finset.univ : Finset (Fin n)).fold max ⊥ f ≤ B ↔ ∀ k, f k ≤ B := by
  rw [Finset.fold_max_le]; simp

theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

theorem ofBits_bot : Ideal.ofBits .f32 0xFF800000#32 = ⊥ := by simp [Ideal.ofBits, Ideal.ieee]

/-- The assumptions on a tile: finite and bounded, its second factor the sign matrix, its mix matrix a bounded matrix's. -/
structure Fine (x : Vec Ideal S256x9216 .bf16) (hh : Vec Ideal S256x256 .bf16) (m1 m2 m3 : FVec Ideal S72x216 .bf16)
    (xr had : ℕ → ℕ → ℝ) : Prop where
  hx : ∀ r c, rd2 x r c = ((xr r c : ℝ) : EReal)
  hs : ∀ q < 256, ∀ p < 256, rd2 hh q p = ((sgn 8 p q : ℝ) : EReal)
  h1 : ∀ r < 72, ∀ k < 216, rd2 m1 r k = ((mixOf had r (k % 72) : ℝ) : EReal)
  h2 : ∀ r < 72, ∀ k < 216, rd2 m2 r k = (0 : EReal)
  h3 : ∀ r < 72, ∀ k < 216, rd2 m3 r k = (0 : EReal)
  bx : ∀ r c, |xr r c| ≤ xMax
  bh : ∀ a k, |had a k| ≤ 1

/-- Four 8-row pieces, one under the other. -/
theorem rows4 {n : ℕ} [NeZero n] {α : Type} (p : Fin 4 → (⟨2, ![8, n]⟩ : Shape).Idx → α) (h) (r : Fin 32) (c : Fin n) :
    concatenate ⟨2, ![32, n]⟩ 0 [⟨⟨2, ![8, n]⟩, p 0⟩, ⟨⟨2, ![8, n]⟩, p 1⟩, ⟨⟨2, ![8, n]⟩, p 2⟩, ⟨⟨2, ![8, n]⟩, p 3⟩] h (ix2 r c)
      = p ⟨r.val / 8, by have := r.isLt; omega⟩ (ix2 (⟨r.val % 8, Nat.mod_lt _ (by norm_num)⟩ : Fin 8) c) := by
  have hr := r.isLt
  obtain ⟨q, hq, hq4⟩ : ∃ q, r.val / 8 = q ∧ q < 4 := ⟨_, rfl, by omega⟩
  have key : ∀ k (hk : k < 4), r.val / 8 = k → ∀ hk', (([⟨⟨2, ![8, n]⟩, p 0⟩, ⟨⟨2, ![8, n]⟩, p 1⟩, ⟨⟨2, ![8, n]⟩, p 2⟩, ⟨⟨2, ![8, n]⟩, p 3⟩] :
      List ((s : Shape) × (s.Idx → α)))[k]'hk' = ⟨⟨2, ![8, n]⟩, p ⟨k, hk⟩⟩) →
      (((([⟨⟨2, ![8, n]⟩, p 0⟩, ⟨⟨2, ![8, n]⟩, p 1⟩, ⟨⟨2, ![8, n]⟩, p 2⟩, ⟨⟨2, ![8, n]⟩, p 3⟩] : List ((s : Shape) × (s.Idx → α))).take k).map (·.1)).map
        fun s => if h : s.rank = (⟨2, ![32, n]⟩ : Shape).rank then s.size ((0 : Fin (⟨2, ![32, n]⟩ : Shape).rank).cast h.symm) else 0).sum = 8 * k →
      concatenate ⟨2, ![32, n]⟩ 0 [⟨⟨2, ![8, n]⟩, p 0⟩, ⟨⟨2, ![8, n]⟩, p 1⟩, ⟨⟨2, ![8, n]⟩, p 2⟩, ⟨⟨2, ![8, n]⟩, p 3⟩] h (ix2 r c)
        = p ⟨k, hk⟩ (ix2 (⟨r.val % 8, Nat.mod_lt _ (by norm_num)⟩ : Fin 8) c) := by
    intro k hk e hk' hx hpre
    exact concatenate_apply_piece (t := ⟨2, ![32, n]⟩) 0 _ h (ix2 r c) k hk' ⟨2, ![8, n]⟩ (p ⟨k, hk⟩) hx rfl (8 * k) hpre (ix2 (⟨r.val % 8, Nat.mod_lt _ (by norm_num)⟩ : Fin 8) c)
      (fun b hb => by match b with | ⟨0, _⟩ => exact absurd rfl hb | ⟨1, _⟩ => rfl) (by show 8 * k + r.val % 8 = r.val; omega)
  rcases (show r.val / 8 = 0 ∨ r.val / 8 = 1 ∨ r.val / 8 = 2 ∨ r.val / 8 = 3 by omega) with e | e | e | e
  all_goals rw [key _ (by omega) rfl (by simp only [List.length_cons, List.length_nil]; omega) (by simp only [e]; rfl) (by simp only [e]; rfl)]

section Tile

variable {x : Vec Ideal S256x9216 .bf16} {hh : Vec Ideal S256x256 .bf16} {m1 m2 m3 : FVec Ideal S72x216 .bf16}
variable {xr had : ℕ → ℕ → ℝ} (H : Fine x hh m1 m2 m3 xr had)
include H

/-- A piece of the second scratch buffer, by entries. -/
theorem Y10_real (t : ℕ) {b a : ℕ} (hb : b < 8) (ha : a < 36) (u : Fin 1) (s : Fin 8) (l : Fin 128) :
    (Y10 x hh m1 m2 m3 t b (8 * a) (ix3 u s l) : EReal)
      = ((rowOf had (xr (32 * t + 8 * (b / 2) + s.val)) (256 * a + 128 * (b % 2) + l.val) : ℝ) : EReal) := by
  have h := G10_real H.hx H.hs H.h1 H.h2 H.h3 t hb ha s.isLt l.isLt
  have hl := l.isLt
  unfold rowOf
  rw [show (256 * a + 128 * (b % 2) + l.val) / 256 = a by omega, show (256 * a + 128 * (b % 2) + l.val) % 256 = 128 * (b % 2) + l.val by omega]
  exact h

theorem maxAcc_le (t : ℕ) {g : ℕ} (hg : g < 4) (s : Fin 8) (l : Fin 128) (B : EReal) : ∀ n ≤ 72,
    ((maxAcc x hh m1 m2 m3 t g n (ix2 s l) : EReal) ≤ B
      ↔ 0 ≤ B ∧ ∀ i < n, ((|rowOf had (xr (32 * t + 8 * g + s.val)) (256 * (i % 36) + 128 * (i / 36) + l.val)| : ℝ) : EReal) ≤ B) := by
  intro n
  induction n with
  | zero =>
    intro _
    have : (maxAcc x hh m1 m2 m3 t g 0 (ix2 s l) : EReal) = 0 := Ideal.ofBits_zero_f32
    rw [this]; simp
  | succ n ih =>
    intro hn
    have e : (shapeCast S8x128 (Y10 x hh m1 m2 m3 t (2 * g + n / 36) (8 * (n % 36))) shapeCasts_S1x8x128_S8x128 (ix2 s l) : EReal)
        = ((rowOf had (xr (32 * t + 8 * g + s.val)) (256 * (n % 36) + 128 * (n / 36) + l.val) : ℝ) : EReal) := by
      refine (shapeCast_1ab_ab_apply _ _ s l).trans ((Y10_real H t (by omega) (by omega) 0 s l).trans ?_)
      rw [show (2 * g + n / 36) / 2 = g by omega, show (2 * g + n / 36) % 2 = n / 36 by omega]
    have e2 : (maxAcc x hh m1 m2 m3 t g (n + 1) (ix2 s l) : EReal) = max (maxAcc x hh m1 m2 m3 t g n (ix2 s l) : EReal)
        ((|rowOf had (xr (32 * t + 8 * g + s.val)) (256 * (n % 36) + 128 * (n / 36) + l.val)| : ℝ) : EReal) := by
      rw [← abs_real, ← e]; rfl
    rw [e2, max_le_iff, ih (by omega), and_assoc]
    refine and_congr_right fun _ => ⟨fun h i hi => ?_, fun h => ⟨fun i hi => h i (by omega), h n (by omega)⟩⟩
    rcases Nat.lt_succ_iff_lt_or_eq.1 hi with h' | h'
    · exact h.1 i h'
    · exact h' ▸ h.2

/-- The bound of a row. -/
theorem amax_real (t : ℕ) {g : ℕ} (hg : g < 4) (s : Fin 8) (u : Fin 1) :
    (amax x hh m1 m2 m3 t g (ix2 s u) : EReal) = bound (rowOf had (xr (32 * t + 8 * g + s.val))) := by
  have hA : (shapeCast S8x1 (multiReduction .maximumf [1] S8 (maxAcc x hh m1 m2 m3 t g 72) 0xFF800000#32 reduces_S8x128_S8 (.inl rfl) rfl)
      shapeCasts_S8_S8x1 (ix2 s u) : EReal) = top (rowOf had (xr (32 * t + 8 * g + s.val))) := by
    refine eq_top fun B => ?_
    rw [show (shapeCast S8x1 (multiReduction .maximumf [1] S8 (maxAcc x hh m1 m2 m3 t g 72) 0xFF800000#32 reduces_S8x128_S8 (.inl rfl) rfl)
      shapeCasts_S8_S8x1 (ix2 s u) : EReal) = _ from (shapeCast_a_a1_apply _ _ s u).trans (Ideal.multiReduction_maximumf_single _ _ _ _ _ _)]
    have e : (FloatOps.ofBits .f32 0xFF800000#32 : Ideal .f32) = (⊥ : EReal) := ofBits_bot
    rw [e]
    refine (fold_max_le (n := 128) _ B).trans ?_
    have hk : ∀ k : Fin 128, (maxAcc x hh m1 m2 m3 t g 72 ∘ (reduces_S8x128_S8).lift (ix1 s)) k = maxAcc x hh m1 m2 m3 t g 72 (ix2 s k) :=
      fun k => congrArg (maxAcc x hh m1 m2 m3 t g 72) (lift_row reduces_S8x128_S8 s k)
    constructor
    · intro h j hj
      have h1 := h ⟨j % 128, by omega⟩
      rw [hk] at h1
      have hq : j / 128 % 2 = 0 ∨ j / 128 % 2 = 1 := by omega
      have hd : (36 * (j / 128 % 2) + j / 256) / 36 = j / 128 % 2 := by rcases hq with hq | hq <;> rw [hq] <;> omega
      have hm : (36 * (j / 128 % 2) + j / 256) % 36 = j / 256 := by rcases hq with hq | hq <;> rw [hq] <;> omega
      have h2 := ((maxAcc_le H t hg s _ B 72 le_rfl).1 h1).2 (36 * (j / 128 % 2) + j / 256) (by omega)
      rw [hd, hm] at h2
      have e3 : 256 * (j / 256) + 128 * (j / 128 % 2) + j % 128 = j := by omega
      exact e3 ▸ h2
    · intro h k
      rw [hk]
      refine (maxAcc_le H t hg s k B 72 le_rfl).2 ⟨?_, fun i hi => h _ (by have := k.isLt; omega)⟩
      rw [← EReal.coe_zero]
      exact (EReal.coe_le_coe_iff.2 (abs_nonneg _)).trans (h 0 (by norm_num))
  show (shapeCast S8x1 (multiReduction .maximumf [1] S8 (maxAcc x hh m1 m2 m3 t g 72) 0xFF800000#32 reduces_S8x128_S8 (.inl rfl) rfl)
      shapeCasts_S8_S8x1 (ix2 s u) : EReal) * Ideal.ofBits .f32 0x3B124925#32 = _
  rw [hA, ofBits_c448]; rfl

/-- The scale of a row, and its reciprocal. -/
theorem scl_inv_real (t : ℕ) {g : ℕ} (hg : g < 4) (s : Fin 8) (u : Fin 1) :
    (scl x hh m1 m2 m3 t g (ix2 s u) : EReal) = scaleOf (rowOf had (xr (32 * t + 8 * g + s.val)))
      ∧ (inv x hh m1 m2 m3 t g (ix2 s u) : EReal) = Ideal.div 1 (scaleOf (rowOf had (xr (32 * t + 8 * g + s.val)))) := by
  obtain ⟨a, ha, htop, hbd, h0, hlt⟩ := top_real (had := had) (x := xr (32 * t + 8 * g + s.val)) H.bh (H.bx _)
  have hv := amax_real H t hg s u
  obtain ⟨k, hk, hlo, hhi, hS, hI⟩ := scale_real (v := amax x hh m1 m2 m3 t g) (i := ix2 s u) (by rw [hv]; exact h0) (by rw [hv]; exact hlt)
  rw [hv] at hlo hhi hS
  have hz : bound (rowOf had (xr (32 * t + 8 * g + s.val))) = 0 ↔ top (rowOf had (xr (32 * t + 8 * g + s.val))) = 0 := by
    have hc : c448 ≠ 0 := by unfold c448; norm_num
    rw [hbd, htop, ← EReal.coe_zero, EReal.coe_eq_coe_iff, EReal.coe_eq_coe_iff, mul_eq_zero]
    simp [hc]
  have hE : (sclOf (amax x hh m1 m2 m3 t g) (ix2 s u) : EReal) = scaleOf (rowOf had (xr (32 * t + 8 * g + s.val))) := by
    rw [hS, scaleOf_eq hk hlo hhi]
    by_cases h : top (rowOf had (xr (32 * t + 8 * g + s.val))) = 0
    · rw [if_pos (hz.2 h), if_pos h]
    · rw [if_neg (fun h' => h (hz.1 h')), if_neg h]
  exact ⟨hE, hI.trans (by rw [hE])⟩

/-- The scales output, by rows. -/
theorem scalesV_real (y : S256x1.Idx) :
    (scalesV x hh m1 m2 m3 y : EReal) = scaleOf (rowOf had (xr (y 0).val)) := by
  have hy : (y 0).val < 256 := (y 0).isLt
  unfold scalesV
  have hr : (y 0).val % 32 < 32 := Nat.mod_lt _ (by norm_num)
  rw [rd2_lt _ hr (Nat.zero_lt_one)]
  refine (rows4 (n := 1) (fun g => scl x hh m1 m2 m3 ((y 0).val / 32) g.val) _ _ _).trans ?_
  refine (scl_inv_real H _ (by dsimp only; omega) _ _).1.trans ?_
  dsimp only
  rw [show 32 * ((y 0).val / 32) + 8 * ((y 0).val % 32 / 8) + (y 0).val % 32 % 8 = (y 0).val by omega]

/-- A piece of the second scratch buffer times the reciprocal of its rows' scales. -/
theorem scaled_real (t : ℕ) {b a g : ℕ} (hb : b < 8) (ha : a < 36) (hg : b / 2 = g) (s : Fin 8) (l : Fin 128) :
    (mulf (shapeCast S8x128 (Y10 x hh m1 m2 m3 t b (8 * a)) shapeCasts_S1x8x128_S8x128)
        (broadcastTo S8x128 (inv x hh m1 m2 m3 t g) broadcasts_S8x1_S8x128) (ix2 s l) : EReal)
      = ((rowOf had (xr (32 * t + 8 * g + s.val)) (256 * a + 128 * (b % 2) + l.val) : ℝ) : EReal)
        * Ideal.div 1 (scaleOf (rowOf had (xr (32 * t + 8 * g + s.val)))) := by
  subst hg
  refine congrArg₂ (fun a b : EReal => a * b) ?_ ?_
  · exact (shapeCast_1ab_ab_apply _ _ _ _).trans (Y10_real H t hb ha 0 s l)
  · refine (broadcastTo_apply _ _ _ (ix2 s (0 : Fin 1)) (fun ax => ?_)).trans (scl_inv_real H t (by omega) s 0).2
    match ax with
    | ⟨0, _⟩ => rfl
    | ⟨1, _⟩ => rfl

/-- The codes output, by rows. -/
theorem codesV_real (y : S256x9216.Idx) :
    (codesV x hh m1 m2 m3 y : EReal) = codeOf (rowOf had (xr (y 0).val)) (y 1).val := by
  have hy : (y 0).val < 256 := (y 0).isLt
  have hy1 : (y 1).val < 9216 := (y 1).isLt
  unfold codesV
  have hr : (y 0).val % 32 < 32 := Nat.mod_lt _ (by norm_num)
  have hc : (y 1).val % 128 < 128 := Nat.mod_lt _ (by norm_num)
  rw [rd2_lt _ hr hc]
  have hv : ∀ g : Fin 4, (![(y 1).val / 128 % 2, 2 + (y 1).val / 128 % 2, 4 + (y 1).val / 128 % 2, 6 + (y 1).val / 128 % 2] : Fin 4 → ℕ) g
      = 2 * g.val + (y 1).val / 128 % 2 := by
    intro g; fin_cases g <;> simp
  have e := (rows4 (n := 128) (fun g => (mulf (shapeCast S8x128 (Y10 x hh m1 m2 m3 ((y 0).val / 32) ((![(y 1).val / 128 % 2, 2 + (y 1).val / 128 % 2, 4 + (y 1).val / 128 % 2, 6 + (y 1).val / 128 % 2] : Fin 4 → ℕ) g) (8 * ((y 1).val / 128 / 2))) shapeCasts_S1x8x128_S8x128) (broadcastTo S8x128 (inv x hh m1 m2 m3 ((y 0).val / 32) g.val) broadcasts_S8x1_S8x128) : Vec Ideal S8x128 .f32))
    concatenates_S8x128_S8x128_S8x128_S8x128_S32x128_d0 ⟨(y 0).val % 32, hr⟩ ⟨(y 1).val % 128, hc⟩).trans
    (scaled_real H ((y 0).val / 32) (g := (y 0).val % 32 / 8) (by rw [hv]; dsimp only; omega) (by omega) (by rw [hv]; dsimp only; omega)
      ⟨(y 0).val % 32 % 8, Nat.mod_lt _ (by norm_num)⟩ ⟨(y 1).val % 128, hc⟩)
  have hj : 256 * ((y 1).val / 128 / 2) + 128 * ((![(y 1).val / 128 % 2, 2 + (y 1).val / 128 % 2, 4 + (y 1).val / 128 % 2, 6 + (y 1).val / 128 % 2] : Fin 4 → ℕ)
      ⟨(y 0).val % 32 / 8, by omega⟩ % 2) + (y 1).val % 128 = (y 1).val := by
    rw [hv]; dsimp only; omega
  dsimp only at e
  rw [hj, show 32 * ((y 0).val / 32) + 8 * ((y 0).val % 32 / 8) + (y 0).val % 32 % 8 = (y 0).val by omega] at e
  unfold codeOf
  rw [← e]
  rfl

end Tile

/-- The projection output, by rows: the sum over the codes, times the two scales. -/
theorem outV_real (sc : Vec Ideal S256x1 .f32) (cd : Vec Ideal S256x9216 .fp8e4m3) (w : Vec Ideal S9216x2304 .fp8e4m3) (ws : Vec Ideal S1x2304 .f32)
    (y : S256x2304.Idx) :
    (outV sc cd w ws y : EReal) = (∑ j ∈ Finset.range 9216, (rd2 cd (y 0).val j : EReal) * rd2 w j (y 1).val) * rd2 sc (y 0).val 0 * rd2 ws 0 (y 1).val := by
  have hy : (y 0).val < 256 := (y 0).isLt
  have hy1 : (y 1).val < 2304 := (y 1).isLt
  have hm : (y 1).val % 256 < 256 := Nat.mod_lt _ (by norm_num)
  have hn : 256 * ((y 1).val / 256) + (y 1).val % 256 = (y 1).val := by omega
  unfold outV
  rw [rd2_lt _ hy hm]
  have e0 : (constant S256x256 .f32 0x00000000#32 : FVec Ideal S256x256 .f32) (ix2 ⟨(y 0).val, hy⟩ ⟨(y 1).val % 256, hm⟩) = 0 := Ideal.ofBits_zero_f32
  have em : (FloatOps.matmul (F := Ideal) (DotDims.plain 256 9216 256) none (φ₁ := .fp8e4m3) (φ₂ := .fp8e4m3) cd (colBlock (a := 9216) (b := 2304) w ((y 1).val / 256)) (constant S256x256 .f32 0x00000000#32) : FVec Ideal S256x256 .f32)
      (ix2 ⟨(y 0).val, hy⟩ ⟨(y 1).val % 256, hm⟩) = ∑ j ∈ Finset.range 9216, (rd2 cd (y 0).val j : EReal) * rd2 w j (y 1).val := by
    rw [Ideal.matmul_plain_apply, e0, zero_add, ← Fin.sum_univ_eq_sum_range (fun j => (rd2 cd (y 0).val j : EReal) * rd2 w j (y 1).val)]
    refine Finset.sum_congr rfl fun k _ => congrArg₂ (fun a b : EReal => a * b) (rd2_ix2 cd ⟨(y 0).val, hy⟩ k) ?_
    exact congrArg (rd2 w k.val) hn
  have hcd : (shapeCast S256x9216 cd shapeCasts_S256x9216_S256x9216) = cd := by
    funext i; exact shapeCast_apply cd _ _ _ rfl
  rw [← em]
  refine congrArg₂ (fun a b : EReal => a * b) (congrArg₂ (fun a b : EReal => a * b) (by rw [hcd]; rfl) ?_) ?_
  · refine (broadcastTo_apply _ _ _ (ix2 ⟨(y 0).val, hy⟩ (0 : Fin 1)) (fun ax => ?_)).trans ((shapeCast_apply sc _ _ _ rfl).trans (rd2_ix2 sc ⟨(y 0).val, hy⟩ 0))
    match ax with
    | ⟨0, _⟩ => rfl
    | ⟨1, _⟩ => rfl
  · refine (broadcastTo_apply _ _ _ (ix2 (0 : Fin 1) ⟨(y 1).val % 256, hm⟩) (fun ax => ?_)).trans ((shapeCast_apply (colBlock (a := 1) (b := 2304) ws ((y 1).val / 256)) _ _ _ rfl).trans (congrArg (rd2 ws 0) hn))
    match ax with
    | ⟨0, _⟩ => rfl
    | ⟨1, _⟩ => rfl

end Cert.KernelIdeal.Hand

end
-- ==== Proof.RefStage.lean ====
/-
  One stage of the reference's Hadamard transform along the last axis: pairs of entries `h` apart are replaced by their sum
  and difference. Read at an index over finite entries, it is `Cert.Hand.stage h`.
-/
module

public import proofs.«01_k».proof.Proof.Spec
public import Idealize.ShloMosaic.Lib.ValueLayoutCasts
public import Idealize.ShloMosaic.Lib.ValueIdxRank6
public import Idealize.ShloMosaic.Lib.Pipeline.Value
public import proofs.«01_k».proof.Proof.Gen.ReferenceIdeal.Frame

@[expose] public section

set_option maxRecDepth 65536

noncomputable section

namespace Cert.ReferenceIdeal.Hand

open Cert.ReferenceIdeal.Gen Cert.Hand
open Idealize.ShloMosaic Idealize.ShloMosaic.TcCoe Idealize.ShloMosaic.Tactic Idealize.ShloMosaic.ValueIdx

/-- The blocks of a row, each cut into `n` pairs of runs of length `h`. -/
abbrev Sp (n c h : ℕ) : Shape := ⟨6, ![2, 1024, 36, n, c, h]⟩

/-- One of the two runs of each pair. -/
abbrev Sh (n h : ℕ) : Shape := ⟨5, ![2, 1024, 36, n, h]⟩

section Stage

variable {F : FTy → Type} [FloatOps F] {n h : ℕ}

/-- The runs numbered `k` (0 or 1) of the pairs. -/
def half (k : ℕ) (X : FVec F S2x1024x36x256 .f32) (h1 : S2x1024x36x256.ShapeCasts (Sp n 2 h))
    (h2 : (Sp n 2 h).Slices ![0, 0, 0, 0, k, 0] (Sp n 1 h)) (h4 : (Sp n 1 h).ShapeCasts (Sh n h)) : FVec F (Sh n h) .f32 :=
  shapeCast (Sh n h) (extractStridedSlice (Sp n 1 h) ![0, 0, 0, 0, k, 0] (shapeCast (Sp n 2 h) X h1) h2) h4

/-- A stage of the transform. -/
def bstage (n h : ℕ) (X : FVec F S2x1024x36x256 .f32) (h1 : S2x1024x36x256.ShapeCasts (Sp n 2 h))
    (h2 : (Sp n 2 h).Slices ![0, 0, 0, 0, 0, 0] (Sp n 1 h)) (h3 : (Sp n 2 h).Slices ![0, 0, 0, 0, 1, 0] (Sp n 1 h))
    (h4 : (Sp n 1 h).ShapeCasts (Sh n h)) (h5 : (Sh n h).BroadcastsInDim (Sp n 1 h) (![0, 1, 2, 3, 5] : Fin 5 → Fin 6))
    (h6 : Shape.Concatenates [Sp n 1 h, Sp n 1 h] (Sp n 2 h) 4) (h7 : (Sp n 2 h).ShapeCasts S2x1024x36x256) : FVec F S2x1024x36x256 .f32 :=
  shapeCast S2x1024x36x256 (concatenate (Sp n 2 h) 4
    [⟨Sp n 1 h, broadcastInDim (Sp n 1 h) ![0, 1, 2, 3, 5] h5 (addf (half 0 X h1 h2 h4) (half 1 X h1 h3 h4))⟩,
     ⟨Sp n 1 h, broadcastInDim (Sp n 1 h) ![0, 1, 2, 3, 5] h5 (subf (half 0 X h1 h2 h4) (half 1 X h1 h3 h4))⟩] h6) h7

end Stage

section Real

variable {n h : ℕ}

theorem half_apply (hn : n * 2 * h = 256) (k : Fin 2) (X : FVec Ideal S2x1024x36x256 .f32) (h1 : S2x1024x36x256.ShapeCasts (Sp n 2 h))
    (h2 : (Sp n 2 h).Slices ![0, 0, 0, 0, k.val, 0] (Sp n 1 h)) (h4 : (Sp n 1 h).ShapeCasts (Sh n h))
    (b : Fin 2) (s : Fin 1024) (a : Fin 36) (i : Fin n) (l : Fin h) (q : Fin 256) (hq : q.val = (i.val * 2 + k.val) * h + l.val) :
    half k.val X h1 h2 h4 (ix5 b s a i l) = X (ix4 b s a q) := by
  unfold half
  refine (shapeCast_apply _ h4 _ (ix6 b s a i (0 : Fin 1) l) ?_).trans ?_
  · rw [Shape.rowMajor_val_six, Shape.rowMajor_val_five]
    show ((((b.val * 1024 + s.val) * 36 + a.val) * n + i.val) * 1 + 0) * h + l.val = (((b.val * 1024 + s.val) * 36 + a.val) * n + i.val) * h + l.val
    ring
  refine (extractStridedSlice_apply _ _ h2 _ (ix6 b s a i k l) (fun ax => ?_)).trans ?_
  · match ax with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => exact (Nat.add_zero _).symm
    | ⟨5, _⟩ => exact (Nat.zero_add _).symm
  refine shapeCast_apply X h1 _ (ix4 b s a q) ?_
  rw [Shape.rowMajor_val_six, Shape.rowMajor_val_four]
  show ((b.val * 1024 + s.val) * 36 + a.val) * 256 + q.val = ((((b.val * 1024 + s.val) * 36 + a.val) * n + i.val) * 2 + k.val) * h + l.val
  rw [hq, ← hn]; ring

/-- Two pieces put side by side, read in the first. -/
theorem pair_0 (A B : FVec Ideal (Sp n 1 h) .f32) (h6 : Shape.Concatenates [Sp n 1 h, Sp n 1 h] (Sp n 2 h) 4)
    (b : Fin 2) (s : Fin 1024) (a : Fin 36) (i : Fin n) (l : Fin h) :
    concatenate (Sp n 2 h) 4 [⟨Sp n 1 h, A⟩, ⟨Sp n 1 h, B⟩] h6 (ix6 b s a i (0 : Fin 2) l) = A (ix6 b s a i (0 : Fin 1) l) :=
  concatenate_apply_piece (t := Sp n 2 h) 4 [⟨Sp n 1 h, A⟩, ⟨Sp n 1 h, B⟩] h6 (ix6 b s a i (0 : Fin 2) l) 0 Nat.zero_lt_two (Sp n 1 h) A rfl rfl 0 rfl
    (ix6 b s a i (0 : Fin 1) l) (fun ax hax => by
      match ax with
      | ⟨0, _⟩ => rfl
      | ⟨1, _⟩ => rfl
      | ⟨2, _⟩ => rfl
      | ⟨3, _⟩ => rfl
      | ⟨4, _⟩ => exact absurd rfl hax
      | ⟨5, _⟩ => rfl) rfl

/-- Two pieces put side by side, read in the second. -/
theorem pair_1 (A B : FVec Ideal (Sp n 1 h) .f32) (h6 : Shape.Concatenates [Sp n 1 h, Sp n 1 h] (Sp n 2 h) 4)
    (b : Fin 2) (s : Fin 1024) (a : Fin 36) (i : Fin n) (l : Fin h) :
    concatenate (Sp n 2 h) 4 [⟨Sp n 1 h, A⟩, ⟨Sp n 1 h, B⟩] h6 (ix6 b s a i (1 : Fin 2) l) = B (ix6 b s a i (0 : Fin 1) l) :=
  concatenate_apply_piece (t := Sp n 2 h) 4 [⟨Sp n 1 h, A⟩, ⟨Sp n 1 h, B⟩] h6 (ix6 b s a i (1 : Fin 2) l) 1 (by show 1 < 2; omega) (Sp n 1 h) B rfl rfl 1 rfl
    (ix6 b s a i (0 : Fin 1) l) (fun ax hax => by
      match ax with
      | ⟨0, _⟩ => rfl
      | ⟨1, _⟩ => rfl
      | ⟨2, _⟩ => rfl
      | ⟨3, _⟩ => rfl
      | ⟨4, _⟩ => exact absurd rfl hax
      | ⟨5, _⟩ => rfl) rfl

/-- A stage read at an index. -/
theorem bstage_apply (hn : n * 2 * h = 256) (X : FVec Ideal S2x1024x36x256 .f32) (h1 : S2x1024x36x256.ShapeCasts (Sp n 2 h))
    (h2 : (Sp n 2 h).Slices ![0, 0, 0, 0, 0, 0] (Sp n 1 h)) (h3 : (Sp n 2 h).Slices ![0, 0, 0, 0, 1, 0] (Sp n 1 h))
    (h4 : (Sp n 1 h).ShapeCasts (Sh n h)) (h5 : (Sh n h).BroadcastsInDim (Sp n 1 h) (![0, 1, 2, 3, 5] : Fin 5 → Fin 6))
    (h6 : Shape.Concatenates [Sp n 1 h, Sp n 1 h] (Sp n 2 h) 4) (h7 : (Sp n 2 h).ShapeCasts S2x1024x36x256)
    (b : Fin 2) (s : Fin 1024) (a : Fin 36) (f : ℕ → ℝ) (hX : ∀ p : Fin 256, X (ix4 b s a p) = ((f p.val : ℝ) : EReal)) (p : Fin 256) :
    bstage n h X h1 h2 h3 h4 h5 h6 h7 (ix4 b s a p) = ((stage h f p.val : ℝ) : EReal) := by
  have hp := p.isLt
  have h0 : 0 < h := Nat.pos_of_ne_zero fun e => by subst e; simp at hn
  obtain ⟨i, c, l, hi, hc, hl, e⟩ : ∃ i c l, i < n ∧ c < 2 ∧ l < h ∧ p.val = (i * 2 + c) * h + l := by
    refine ⟨p.val / h / 2, p.val / h % 2, p.val % h, ?_, Nat.mod_lt _ (by norm_num), Nat.mod_lt _ h0, ?_⟩
    · rw [Nat.div_div_eq_div_mul, Nat.div_lt_iff_lt_mul (Nat.mul_pos h0 (by norm_num))]
      calc p.val < 256 := hp
        _ = n * (h * 2) := by rw [← hn]; ring
    · have h3 : p.val / h / 2 * 2 + p.val / h % 2 = p.val / h := by omega
      rw [h3]; exact (Nat.div_add_mod' _ _).symm
  have hd : p.val / h = i * 2 + c := by
    rw [e, Nat.add_comm, Nat.add_mul_div_right _ _ h0, Nat.div_eq_of_lt hl, Nat.zero_add]
  have hb : ∀ (Y : FVec Ideal (Sh n h) .f32) (k : Fin 1), broadcastInDim (Sp n 1 h) ![0, 1, 2, 3, 5] h5 Y (ix6 b s a ⟨i, hi⟩ k ⟨l, hl⟩) = Y (ix5 b s a ⟨i, hi⟩ ⟨l, hl⟩) := by
    intro Y k
    refine broadcastInDim_apply _ _ _ _ _ (fun ax => ?_)
    match ax with
    | ⟨0, _⟩ => exact (if_neg (show ¬ (2 : ℕ) = 1 by norm_num)).symm
    | ⟨1, _⟩ => exact (if_neg (show ¬ (1024 : ℕ) = 1 by norm_num)).symm
    | ⟨2, _⟩ => exact (if_neg (show ¬ (36 : ℕ) = 1 by norm_num)).symm
    | ⟨3, _⟩ => show i = if n = 1 then 0 else i; split <;> omega
    | ⟨4, _⟩ => show l = if h = 1 then 0 else l; split <;> omega
  unfold bstage
  refine (shapeCast_apply _ h7 _ (ix6 b s a (⟨i, hi⟩ : Fin n) (⟨c, hc⟩ : Fin 2) (⟨l, hl⟩ : Fin h)) ?_).trans ?_
  · rw [Shape.rowMajor_val_six, Shape.rowMajor_val_four]
    show ((((b.val * 1024 + s.val) * 36 + a.val) * n + i) * 2 + c) * h + l = ((b.val * 1024 + s.val) * 36 + a.val) * 256 + p.val
    rw [e, ← hn]; ring
  have hm : (i * 2 + c + 1) * h ≤ 256 := by
    calc (i * 2 + c + 1) * h ≤ (n * 2) * h := Nat.mul_le_mul_right _ (by omega)
      _ = 256 := hn
  have hm' : (i * 2 + c) * h + h ≤ 256 := by rw [show (i * 2 + c) * h + h = (i * 2 + c + 1) * h by ring]; exact hm
  rcases (show c = 0 ∨ c = 1 by omega) with rfl | rfl
  · have hm2 : (i * 2 + 0) * h + h + h ≤ 256 := by
      have : (i * 2 + 2) * h ≤ n * 2 * h := Nat.mul_le_mul_right _ (by omega)
      rw [hn] at this
      have e2 : (i * 2 + 2) * h = (i * 2 + 0) * h + h + h := by ring
      omega
    refine (pair_0 _ _ h6 b s a ⟨i, hi⟩ ⟨l, hl⟩).trans ?_
    rw [hb]
    have e0 := half_apply hn 0 X h1 h2 h4 b s a ⟨i, hi⟩ ⟨l, hl⟩ p e
    have e1 := half_apply hn 1 X h1 h3 h4 b s a ⟨i, hi⟩ ⟨l, hl⟩ ⟨p.val + h, by omega⟩ (by
      show p.val + h = (i * 2 + 1) * h + l
      rw [e]; ring)
    rw [hX] at e0 e1
    unfold stage
    rw [if_pos (by rw [hd]; omega), EReal.coe_add]
    exact congrArg₂ (fun a b : EReal => a + b) e0 e1
  · refine (pair_1 _ _ h6 b s a ⟨i, hi⟩ ⟨l, hl⟩).trans ?_
    rw [hb]
    have e2 : (i * 2 + 1) * h = (i * 2 + 0) * h + h := by ring
    have e0 := half_apply hn 0 X h1 h2 h4 b s a ⟨i, hi⟩ ⟨l, hl⟩ ⟨p.val - h, by omega⟩ (by
      show p.val - h = (i * 2 + 0) * h + l
      omega)
    have e1 := half_apply hn 1 X h1 h3 h4 b s a ⟨i, hi⟩ ⟨l, hl⟩ p e
    rw [hX] at e0 e1
    unfold stage
    rw [if_neg (by rw [hd]; omega), EReal.coe_sub]
    exact congrArg₂ (fun a b : EReal => a - b) e0 e1

end Real

/-- The side conditions of a stage. -/
structure StageOk (n h : ℕ) : Prop where
  h0 : n * 2 * h = 256
  h1 : S2x1024x36x256.ShapeCasts (Sp n 2 h)
  h2 : (Sp n 2 h).Slices ![0, 0, 0, 0, 0, 0] (Sp n 1 h)
  h3 : (Sp n 2 h).Slices ![0, 0, 0, 0, 1, 0] (Sp n 1 h)
  h4 : (Sp n 1 h).ShapeCasts (Sh n h)
  h5 : (Sh n h).BroadcastsInDim (Sp n 1 h) (![0, 1, 2, 3, 5] : Fin 5 → Fin 6)
  h6 : Shape.Concatenates [Sp n 1 h, Sp n 1 h] (Sp n 2 h) 4
  h7 : (Sp n 2 h).ShapeCasts S2x1024x36x256

/-- A stage, its side conditions bundled. -/
def bst {F : FTy → Type} [FloatOps F] {n h : ℕ} (ok : StageOk n h) (X : FVec F S2x1024x36x256 .f32) : FVec F S2x1024x36x256 .f32 :=
  bstage n h X ok.h1 ok.h2 ok.h3 ok.h4 ok.h5 ok.h6 ok.h7

/-- An array holds finite entries `f` along the last axis of block `(b, s, a)`. -/
def Holds (X : FVec Ideal S2x1024x36x256 .f32) (b : Fin 2) (s : Fin 1024) (a : Fin 36) (f : ℕ → ℝ) : Prop :=
  ∀ p : Fin 256, X (ix4 b s a p) = ((f p.val : ℝ) : EReal)

theorem Holds.bst {X : FVec Ideal S2x1024x36x256 .f32} {b : Fin 2} {s : Fin 1024} {a : Fin 36} {f : ℕ → ℝ} (hX : Holds X b s a f)
    {n h : ℕ} (ok : StageOk n h) : Holds (bst ok X) b s a (stage h f) :=
  fun p => bstage_apply ok.h0 X ok.h1 ok.h2 ok.h3 ok.h4 ok.h5 ok.h6 ok.h7 b s a f hX p

theorem ok1 : StageOk 128 1 := by constructor <;> decide
theorem ok2 : StageOk 64 2 := by constructor <;> decide
theorem ok4 : StageOk 32 4 := by constructor <;> decide
theorem ok8 : StageOk 16 8 := by constructor <;> decide
theorem ok16 : StageOk 8 16 := by constructor <;> decide
theorem ok32 : StageOk 4 32 := by constructor <;> decide
theorem ok64 : StageOk 2 64 := by constructor <;> decide
theorem ok128 : StageOk 1 128 := by constructor <;> decide

/-- The eight stages. -/
def eight {F : FTy → Type} [FloatOps F] (X : FVec F S2x1024x36x256 .f32) : FVec F S2x1024x36x256 .f32 :=
  bst ok128 (bst ok64 (bst ok32 (bst ok16 (bst ok8 (bst ok4 (bst ok2 (bst ok1 X)))))))

theorem Holds.eight {X : FVec Ideal S2x1024x36x256 .f32} {b : Fin 2} {s : Fin 1024} {a : Fin 36} {f : ℕ → ℝ} (hX : Holds X b s a f) :
    Holds (eight X) b s a (stages 8 f) :=
  (((((((hX.bst ok1).bst ok2).bst ok4).bst ok8).bst ok16).bst ok32).bst ok64).bst ok128

end Cert.ReferenceIdeal.Hand

end
-- ==== Proof.RefHost.lean ====
/-
  The reference's host operations before its region, in pieces: the input and its first transform, eight stages of eleven
  operations each, and the rest. Each piece read at the buffers the next one needs.
-/
module

public import proofs.«01_k».proof.Proof.RefStage
public import Idealize.ShloMosaic.Lib.StableHlo.RunRead

@[expose] public section

set_option maxRecDepth 65536

noncomputable section

namespace Cert.ReferenceIdeal.Hand

open Cert.ReferenceIdeal.Gen Cert.Hand
open Idealize.ShloMosaic Idealize.ShloMosaic.TcCoe Idealize.ShloMosaic.Tactic Idealize.ShloMosaic.ValueIdx

variable {F : FTy → Type} [FloatOps F]

/-- The first five operations. -/
def opsA : List (HloOp τ sig (Elt F)) := (hostOps0 (F := F)).take 5
/-- Stage `k`'s eleven operations. -/
def opsS (k : ℕ) : List (HloOp τ sig (Elt F)) := ((hostOps0 (F := F)).drop (5 + 11 * k)).take 11
/-- The operations after the stages. -/
def opsB : List (HloOp τ sig (Elt F)) := (hostOps0 (F := F)).drop 93 ++ ([hostOps0_1, hostOps0_2, hostOps0_3, hostOps0_4] : List (List (HloOp τ sig (Elt F)))).flatten

section Stages

variable (W : Valuation τ sig (Elt F))

theorem s0 : StableHlo.after (opsS 0) W (Proc.devRef .tc main_v14) = bst ok1 (W (Proc.devRef .tc main_v3)) := by
  after_reads_simp
  rfl

theorem s1 : StableHlo.after (opsS 1) W (Proc.devRef .tc main_v25) = bst ok2 (W (Proc.devRef .tc main_v14)) := by
  after_reads_simp
  rfl

theorem s2 : StableHlo.after (opsS 2) W (Proc.devRef .tc main_v36) = bst ok4 (W (Proc.devRef .tc main_v25)) := by
  after_reads_simp
  rfl

theorem s3 : StableHlo.after (opsS 3) W (Proc.devRef .tc main_v47) = bst ok8 (W (Proc.devRef .tc main_v36)) := by
  after_reads_simp
  rfl

theorem s4 : StableHlo.after (opsS 4) W (Proc.devRef .tc main_v58) = bst ok16 (W (Proc.devRef .tc main_v47)) := by
  after_reads_simp
  rfl

theorem s5 : StableHlo.after (opsS 5) W (Proc.devRef .tc main_v69) = bst ok32 (W (Proc.devRef .tc main_v58)) := by
  after_reads_simp
  rfl

theorem s6 : StableHlo.after (opsS 6) W (Proc.devRef .tc main_v80) = bst ok64 (W (Proc.devRef .tc main_v69)) := by
  after_reads_simp
  rfl

theorem s7 : StableHlo.after (opsS 7) W (Proc.devRef .tc main_v91) = bst ok128 (W (Proc.devRef .tc main_v80)) := by
  after_reads_simp
  rfl

theorem keepS (k : ℕ) (hk : k < 8) : StableHlo.after (opsS k) W (Proc.devRef .tc main_cst) = W (Proc.devRef .tc main_cst) := by
  interval_cases k <;> after_reads_simp

/-- The input, its blocks mixed by the matrix. -/
def mixedIn (had : FVec F S36x36 .f32) (x : FVec F S2x1024x9216 .bf16) : FVec F S2x1024x36x256 .f32 :=
  transpose S2x1024x36x256 [1, 2, 0, 3] (Host.dotGeneral dot_S36x36_S2x1024x36x256_S36x2x1024x256_1_2_0_013_n_n (some .fp32) had
    (shapeCast S2x1024x36x256 (extf .f32 x bitsLt_bf16_f32) shapeCasts_S2x1024x9216_S2x1024x36x256)) transposes_S36x2x1024x256_S2x1024x36x256_1_2_0_3

theorem a3 : StableHlo.after opsA W (Proc.devRef .tc main_v3) = mixedIn (W (Proc.devRef .tc main_arg1)) (W (Proc.devRef .tc main_arg0)) := by
  after_reads_simp
  rfl

/-- The table of powers of two. -/
def table : FVec F S254 .f32 := fun i => FloatOps.ofBits .f32 (lit0 (S254.rowMajor i))

theorem aCst : StableHlo.after opsA W (Proc.devRef .tc main_cst) = (table : FVec F S254 .f32) := by
  after_reads_simp
  rfl

/-- The rotated rows. -/
def rows (X : FVec F S2x1024x36x256 .f32) : FVec F S2048x9216 .f32 :=
  shapeCast S2048x9216 (mulf X (broadcastInDim S2x1024x36x256 ![] bcast_S_S2x1024x36x256 (constant S_ .f32 0x3C2AAAAB#32))) shapeCasts_S2x1024x36x256_S2048x9216

/-- The rows' largest magnitudes. -/
def rowTop (y : FVec F S2048x9216 .f32) : FVec F S2048 .f32 :=
  Host.reduce FloatOps.maximumf (Host.absf y) (constant S_ .f32 0xFF800000#32) reducesTo_S2048x9216_S2048_d1 h_S_

/-- What the rows' scales must exceed. -/
def rowBound (y : FVec F S2048x9216 .f32) : FVec F S2048 .f32 :=
  mulf (rowTop y) (broadcastInDim S2048 ![] bcast_S_S2048 (constant S_ .f32 0x3B124925#32))

/-- The table's entries above the bound, the others replaced by +∞. -/
def cands (y : FVec F S2048x9216 .f32) (t : FVec F S254 .f32) : FVec F S2048x254 .f32 :=
  select (cmpf .olt (broadcastInDim S2048x254 ![0, 1] bcast_S2048x1_S2048x254_0_1 (broadcastInDim S2048x1 ![0] bcast_S2048_S2048x1_0 (rowBound y)))
      (broadcastInDim S2048x254 ![0, 1] bcast_S1x254_S2048x254_0_1 (broadcastInDim S1x254 ![1] bcast_S254_S1x254_1 t)))
    (broadcastInDim S2048x254 ![1] bcast_S254_S2048x254_1 t) (broadcastInDim S2048x254 ![] bcast_S_S2048x254 (constant S_ .f32 0x7F800000#32))

/-- The rows' scales. -/
def rowScale (y : FVec F S2048x9216 .f32) (t : FVec F S254 .f32) : FVec F S2048 .f32 :=
  select (cmpf .oeq (rowTop y) (broadcastInDim S2048 ![] bcast_S_S2048 (constant S_ .f32 0x00000000#32)))
    (broadcastInDim S2048 ![] bcast_S_S2048 (constant S_ .f32 0x3F800000#32))
    (Host.reduce FloatOps.minimumf (cands y t) (constant S_ .f32 0x7F800000#32) reducesTo_S2048x254_S2048_d1 h_S_)

theorem b94 : StableHlo.after opsB W (Proc.devRef .tc main_v94) = rows (W (Proc.devRef .tc main_v91)) := by
  after_reads_simp
  rfl

theorem b109 : StableHlo.after opsB W (Proc.devRef .tc main_v109)
    = broadcastInDim S2048x1 ![0] bcast_S2048_S2048x1_0 (rowScale (rows (W (Proc.devRef .tc main_v91))) (W (Proc.devRef .tc main_cst))) := by
  after_reads_simp
  simp -implicitDefEqProofs only [StableHlo.TRef.toBuf, StableHlo.TRef.ofBuf, cast_cast, cast_eq]
  rfl

end Stages

variable (m : (ℓ : Loc nD τ sig) → Buf (Elt F) ℓ) (c : Dev nD)

/-- The rotated rows of the arguments. -/
def yV : FVec F S2048x9216 .f32 := rows (eight (mixedIn (m (c, Proc.devRef .tc main_arg1)) (m (c, Proc.devRef .tc main_arg0))))

theorem V_split (r : Ref sig .tc) : V m c r = StableHlo.after opsB (StableHlo.after (opsS 7) (StableHlo.after (opsS 6) (StableHlo.after (opsS 5) (StableHlo.after (opsS 4)
    (StableHlo.after (opsS 3) (StableHlo.after (opsS 2) (StableHlo.after (opsS 1) (StableHlo.after (opsS 0) (StableHlo.after opsA (fun b => m (c, b))))))))))) (Proc.devRef .tc r) := by
  have h : ([hostOps0, hostOps0_1, hostOps0_2, hostOps0_3, hostOps0_4] : List (List (HloOp τ sig (Elt F)))).flatten
      = opsA ++ (opsS 0 ++ (opsS 1 ++ (opsS 2 ++ (opsS 3 ++ (opsS 4 ++ (opsS 5 ++ (opsS 6 ++ (opsS 7 ++ opsB)))))))) := rfl
  unfold V
  rw [h]
  simp only [StableHlo.after_append]

theorem V_94 : V m c main_v94 = yV m c := by
  rw [V_split, b94, s7, s6, s5, s4, s3, s2, s1, s0, a3]; rfl

theorem V_109 : V m c main_v109 = broadcastInDim S2048x1 ![0] bcast_S2048_S2048x1_0 (rowScale (yV m c) table) := by
  rw [V_split, b109, s7, s6, s5, s4, s3, s2, s1, s0, a3]
  simp only [keepS _ _ (show 0 < 8 by omega), keepS _ _ (show 1 < 8 by omega), keepS _ _ (show 2 < 8 by omega), keepS _ _ (show 3 < 8 by omega),
    keepS _ _ (show 4 < 8 by omega), keepS _ _ (show 5 < 8 by omega), keepS _ _ (show 6 < 8 by omega), keepS _ _ (show 7 < 8 by omega), aCst]
  rfl

theorem V_110 : V m c main_v110 = shapeCast S1x2304 (m (c, Proc.devRef .tc main_arg3)) shapeCasts_S2304_S1x2304 := by
  unfold V
  after_reads_simp
  rfl

end Cert.ReferenceIdeal.Hand

end
-- ==== Proof.RefVal.lean ====
/-
  The reference's rotated rows and scales over finite arguments are the row specification's (Spec.lean).
-/
module

public import proofs.«01_k».proof.Proof.RefHost
public import Idealize.ShloMosaic.Lib.KernelVsHost
public import Idealize.ShloMosaic.Lib.Pointwise.Contract
public import Idealize.ShloMosaic.Lib.IdealHost

@[expose] public section

set_option maxRecDepth 65536

noncomputable section

namespace Cert.ReferenceIdeal.Hand

open Cert.ReferenceIdeal.Gen Cert.Hand
open Cert.KernelIdeal.Hand (pw ofBits_pw pw_real)
open Idealize.ShloMosaic hiding ix1 ix2 ix3 ix4
open Idealize.ShloMosaic.TcCoe Idealize.ShloMosaic.Tactic Idealize.ShloMosaic.ValueIdx

/-- The arguments are finite: the matrix `hr`, the rows `xr`. -/
structure Finite (had : FVec Ideal S36x36 .f32) (x : FVec Ideal S2x1024x9216 .bf16) (hr : ℕ → ℕ → ℝ) (xr : ℕ → ℕ → ℝ) : Prop where
  hh : ∀ (a k : Fin 36), had (ix2 a k) = ((hr a.val k.val : ℝ) : EReal)
  hx : ∀ (b : Fin 2) (s : Fin 1024) (j : Fin 9216), x (ix3 b s j) = ((xr (1024 * b.val + s.val) j.val : ℝ) : EReal)
  bx : ∀ r c, |xr r c| ≤ xMax
  bh : ∀ a k, |hr a k| ≤ 1

/-! ### Pointwise readings -/

/-- An entry of a product with a splat constant. -/
theorem mulf_cst {s : Shape} (X : FVec Ideal s .f32) (h : S_.BroadcastsInDim s ![]) (b : BitVec 32) (i : s.Idx) :
    (mulf X (broadcastInDim s ![] h (constant S_ .f32 b)) i : EReal) = X i * Ideal.ofBits .f32 b := rfl

/-- An entry of a choice by an ordered less-than. -/
theorem sel_olt {s : Shape} (a b c d : FVec Ideal s .f32) (i : s.Idx) :
    (select (cmpf .olt a b) c d i : EReal) = if (a i : EReal) < b i then (c i : EReal) else d i := by
  show (if BitVec.ofBool (decide ((a i : EReal) < b i)) = 1 then (c i : EReal) else d i) = _
  by_cases h : (a i : EReal) < b i
  · rw [if_pos h, decide_eq_true h]; rfl
  · rw [if_neg h, decide_eq_false h]; rfl

/-- An entry of a choice by an ordered equality. -/
theorem sel_oeq {s : Shape} (a b c d : FVec Ideal s .f32) (i : s.Idx) :
    (select (cmpf .oeq a b) c d i : EReal) = if (a i : EReal) = b i then (c i : EReal) else d i := by
  show (if BitVec.ofBool (decide ((a i : EReal) = b i)) = 1 then (c i : EReal) else d i) = _
  by_cases h : (a i : EReal) = b i
  · rw [if_pos h, decide_eq_true h]; rfl
  · rw [if_neg h, decide_eq_false h]; rfl

/-- An entry's magnitude is the larger of it and its negative. -/
theorem absf_at {s : Shape} (y : FVec Ideal s .f32) (i : s.Idx) : (Host.absf y i : EReal) = max (y i : EReal) (-y i) := rfl

/-- An entry of a splat constant. -/
theorem cst_at {s : Shape} (h : S_.BroadcastsInDim s ![]) (b : BitVec 32) (i : s.Idx) :
    (broadcastInDim s ![] h (constant (F := Ideal) S_ .f32 b) i : EReal) = Ideal.ofBits .f32 b := rfl

/-- An entry of the flattened rows: the transform's entry times the constant one over the root of the row's length. -/
theorem rows_at (X : FVec Ideal S2x1024x36x256 .f32) (r : Fin 2048) (j : Fin 9216) :
    (rows X (ix2 r j) : EReal) = X (ix4 (⟨r.val / 1024, by omega⟩ : Fin 2) (⟨r.val % 1024, Nat.mod_lt _ (by norm_num)⟩ : Fin 1024)
      (⟨j.val / 256, by omega⟩ : Fin 36) (⟨j.val % 256, Nat.mod_lt _ (by norm_num)⟩ : Fin 256)) * Ideal.ofBits .f32 0x3C2AAAAB#32 := by
  unfold rows
  refine (shapeCast_apply _ shapeCasts_S2x1024x36x256_S2048x9216 _ (ix4 (⟨r.val / 1024, by omega⟩ : Fin 2) (⟨r.val % 1024, Nat.mod_lt _ (by norm_num)⟩ : Fin 1024)
    (⟨j.val / 256, by omega⟩ : Fin 36) (⟨j.val % 256, Nat.mod_lt _ (by norm_num)⟩ : Fin 256)) ?_).trans (mulf_cst X _ _ _)
  rw [Shape.rowMajor_val_two, Shape.rowMajor_val_four]
  show ((r.val / 1024 * 1024 + r.val % 1024) * 36 + j.val / 256) * 256 + j.val % 256 = r.val * 9216 + j.val
  omega

section

variable {had : FVec Ideal S36x36 .f32} {x : FVec Ideal S2x1024x9216 .bf16} {hr xr : ℕ → ℕ → ℝ} (H : Finite had x hr xr)

/-- An entry of the product of the 36 × 36 factor with the blocks, as a sum over the 36 blocks. -/
theorem dot_real (v : FVec Ideal S2x1024x36x256 .f32) (a : Fin 36) (b : Fin 2) (s : Fin 1024) (p : Fin 256) :
    Host.dotGeneral dot_S36x36_S2x1024x36x256_S36x2x1024x256_1_2_0_013_n_n (some .fp32) had v (ix4 a b s p)
      = ∑ k : Fin 36, (had (ix2 a k) : EReal) * v (ix4 b s k p) := by
  refine (Ideal.matmul_apply₁_of dot_S36x36_S2x1024x36x256_S36x2x1024x256_1_2_0_013_n_n (K := 36) rfl rfl had v (fun _ => 0) (ix4 a b s p)
    (fun k => ix2 a k) (fun k => ix4 b s k p) (fun k => ?_) (fun k => ?_)).trans (zero_add _)
  · funext c; apply Fin.ext
    fin_cases c <;> rfl
  · funext c; apply Fin.ext
    fin_cases c <;> rfl

include H

/-- The mixed input along the last axis. -/
theorem mixedIn_real (b : Fin 2) (s : Fin 1024) (a : Fin 36) :
    Holds (mixedIn had x) b s a fun p => ∑ k ∈ Finset.range 36, hr a.val k * xr (1024 * b.val + s.val) (256 * k + p) := by
  intro p
  unfold mixedIn
  refine (transpose_apply _ _ transposes_S36x2x1024x256_S2x1024x36x256_1_2_0_3 _ (ix4 a b s p) (fun ax => ?_)).trans ?_
  · match ax with
    | ⟨0, _⟩ => rfl
    | ⟨1, _⟩ => rfl
    | ⟨2, _⟩ => rfl
    | ⟨3, _⟩ => rfl
  rw [dot_real, coe_sum_range, ← Fin.sum_univ_eq_sum_range (fun k => ((hr a.val k * xr (1024 * b.val + s.val) (256 * k + p.val) : ℝ) : EReal))]
  refine Finset.sum_congr rfl fun k _ => ?_
  rw [EReal.coe_mul]
  refine congrArg₂ (fun a b : EReal => a * b) (H.hh a k) ?_
  have hk := k.isLt
  have hp := p.isLt
  refine (shapeCast_apply _ shapeCasts_S2x1024x9216_S2x1024x36x256 _ (ix3 b s (⟨256 * k.val + p.val, by omega⟩ : Fin 9216)) ?_).trans (H.hx b s _)
  rw [Shape.rowMajor_val_three, Shape.rowMajor_val_four]
  show (b.val * 1024 + s.val) * 9216 + (256 * k.val + p.val) = ((b.val * 1024 + s.val) * 36 + k.val) * 256 + p.val
  ring

omit H in
/-- Eight stages of the mixed blocks, scaled, are the rotated row `rot` of Sign.lean. -/
theorem stages_rot (r : ℕ) (a p : ℕ) (hp : p < 256) :
    stages 8 (fun p => ∑ k ∈ Finset.range 36, hr a k * xr r (256 * k + p)) p * c96 = rot hr (xr r) a p := by
  rw [stages_eight _ _ hp]
  unfold rot blockRow
  congr 1
  simp only [Finset.mul_sum]
  rw [Finset.sum_comm]
  refine Finset.sum_congr rfl fun k _ => Finset.sum_congr rfl fun q _ => ?_
  ring

/-- The rotated rows. -/
theorem rows_real (r : Fin 2048) (j : Fin 9216) :
    rows (eight (mixedIn had x)) (ix2 r j) = ((rowOf hr (xr r.val) j.val : ℝ) : EReal) := by
  have hr' := r.isLt
  have hj := j.isLt
  have h := (mixedIn_real H ⟨r.val / 1024, by omega⟩ ⟨r.val % 1024, Nat.mod_lt _ (by norm_num)⟩ ⟨j.val / 256, by omega⟩).eight ⟨j.val % 256, Nat.mod_lt _ (by norm_num)⟩
  dsimp only at h
  rw [show 1024 * (r.val / 1024) + r.val % 1024 = r.val by omega] at h
  generalize eight (mixedIn had x) = X at h ⊢
  refine (rows_at X r j).trans ?_
  unfold rowOf
  rw [← stages_rot r.val (j.val / 256) (j.val % 256) (Nat.mod_lt _ (by norm_num)), EReal.coe_mul, ← ofBits_c96]
  exact congrArg (fun z : EReal => z * Ideal.ofBits .f32 0x3C2AAAAB#32) h

end

/-! ### The scales -/

/-- The index that a reduction along the last axis reads. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The word of plus infinity. -/
theorem ofBits_top : Ideal.ofBits .f32 0x7F800000#32 = ⊤ := by simp [Ideal.ofBits, Ideal.ieee]
/-- The word of minus infinity. -/
theorem ofBits_bot : Ideal.ofBits .f32 0xFF800000#32 = ⊥ := by simp [Ideal.ofBits, Ideal.ieee]

/-- The host's maximum along a row is the supremum of its entries. -/
theorem reduce_max {a b : ℕ} (y : FVec Ideal ⟨2, ![a, b]⟩ .f32) (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (r : Fin a) :
    Host.reduce FloatOps.maximumf y (constant (⟨0, ![]⟩ : Shape) .f32 0xFF800000#32) h' hu (ix1 r)
      = Finset.fold max (⊥ : EReal) (fun k : Fin b => (y (ix2 r k) : EReal)) Finset.univ := by
  rw [Host.reduce_eq_fold_single FloatOps.maximumf y _ h' h hu, ← ofBits_bot]
  have hf : (y ∘ h.lift (ix1 r)) = fun k : Fin b => y (ix2 r k) := funext fun k => congrArg y (lift_row h r k)
  exact congrArg (fun f => Finset.fold max (Ideal.ofBits .f32 0xFF800000#32) f (Finset.univ : Finset (Fin b))) hf

/-- The host's minimum along a row is the infimum of its entries. -/
theorem reduce_min {a b : ℕ} (y : FVec Ideal ⟨2, ![a, b]⟩ .f32) (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (r : Fin a) :
    Host.reduce FloatOps.minimumf y (constant (⟨0, ![]⟩ : Shape) .f32 0x7F800000#32) h' hu (ix1 r)
      = Finset.fold min (⊤ : EReal) (fun k : Fin b => (y (ix2 r k) : EReal)) Finset.univ := by
  rw [Host.reduce_eq_fold_single FloatOps.minimumf y _ h' h hu, ← ofBits_top]
  have hf : (y ∘ h.lift (ix1 r)) = fun k : Fin b => y (ix2 r k) := funext fun k => congrArg y (lift_row h r k)
  exact congrArg (fun f => Finset.fold min (Ideal.ofBits .f32 0x7F800000#32) f (Finset.univ : Finset (Fin b))) hf

/-- The larger of a number and its negative is its magnitude. -/
theorem abs_real (a : ℝ) : max (a : EReal) (-(a : EReal)) = ((|a| : ℝ) : EReal) := by
  rw [← EReal.coe_neg]
  exact ((EReal.coe_strictMono.monotone).map_max (a := a) (b := -a)).symm

/-- The table's entries. -/
theorem lit_pw : ∀ n : Fin 254, lit0 n = BitVec.ofNat 32 (n.val + 1) <<< 23 := by decide +kernel

/-- The table's entry `n` is the power whose exponent field is `n + 1`. -/
theorem table_real (n : Fin 254) : (table (F := Ideal)) (ix1 n) = pw (n.val + 1) := by
  have hn := n.isLt
  rw [← ofBits_pw (by omega), ← lit_pw]
  exact congrArg (fun k => Ideal.ofBits .f32 (lit0 k)) (Fin.ext (Shape.rowMajor_val_one _))

section

variable {y : FVec Ideal S2048x9216 .f32} {Y : ℕ → ℕ → ℝ} (hy : ∀ (r : Fin 2048) (j : Fin 9216), y (ix2 r j) = ((Y r.val j.val : ℝ) : EReal))
include hy

/-- A row's largest magnitude is the row specification's. -/
theorem rowTop_real (r : Fin 2048) : (rowTop y (ix1 r) : EReal) = top (Y r.val) := by
  refine eq_top fun B => ?_
  unfold rowTop
  have e : ∀ k : Fin 9216, (Host.absf y (ix2 r k) : EReal) = ((|Y r.val k.val| : ℝ) : EReal) := fun k => by
    rw [absf_at, hy, abs_real]
  refine Iff.trans (iff_of_eq (congrArg (fun z : EReal => z ≤ B) (reduce_max (Host.absf y) reducesTo_S2048x9216_S2048_d1 (by decide) h_S_ r))) ?_
  rw [Finset.fold_max_le]
  simp only [e]
  exact ⟨fun h j hj => h.2 ⟨j, hj⟩ (Finset.mem_univ _), fun h => ⟨bot_le, fun k _ => h k.val k.isLt⟩⟩

/-- A row's largest magnitude over 448 is the row specification's. -/
theorem rowBound_real (r : Fin 2048) : (rowBound y (ix1 r) : EReal) = bound (Y r.val) := by
  unfold bound rowBound; rw [mulf_cst, rowTop_real hy r, ofBits_c448]

/-- A candidate scale: the table's power where it exceeds the row's bound, plus infinity elsewhere. -/
theorem cands_real (r : Fin 2048) (n : Fin 254) : (cands y table (ix2 r n) : EReal) = if bound (Y r.val) < pw (n.val + 1) then pw (n.val + 1) else ⊤ := by
  have e1 : (broadcastInDim S2048x254 ![0, 1] bcast_S2048x1_S2048x254_0_1 (broadcastInDim S2048x1 ![0] bcast_S2048_S2048x1_0 (rowBound y)) (ix2 r n) : EReal)
      = bound (Y r.val) := by
    refine (broadcastInDim_apply _ _ _ _ (ix2 r (0 : Fin 1)) (fun ax => ?_)).trans ((broadcastInDim_apply _ _ _ _ (ix1 r) (fun ax => ?_)).trans (rowBound_real hy r))
    · match ax with
      | ⟨0, _⟩ => rfl
      | ⟨1, _⟩ => rfl
    · match ax with
      | ⟨0, _⟩ => rfl
  have e2 : (broadcastInDim S2048x254 ![0, 1] bcast_S1x254_S2048x254_0_1 (broadcastInDim S1x254 ![1] bcast_S254_S1x254_1 (table (F := Ideal))) (ix2 r n) : EReal)
      = pw (n.val + 1) := by
    refine (broadcastInDim_apply _ _ _ _ (ix2 (0 : Fin 1) n) (fun ax => ?_)).trans ((broadcastInDim_apply _ _ _ _ (ix1 n) (fun ax => ?_)).trans (table_real n))
    · match ax with
      | ⟨0, _⟩ => rfl
      | ⟨1, _⟩ => rfl
    · match ax with
      | ⟨0, _⟩ => rfl
  have e3 : (broadcastInDim S2048x254 ![1] bcast_S254_S2048x254_1 (table (F := Ideal)) (ix2 r n) : EReal) = pw (n.val + 1) := by
    refine (broadcastInDim_apply _ _ _ _ (ix1 n) (fun ax => ?_)).trans (table_real n)
    match ax with
    | ⟨0, _⟩ => rfl
  have e4 : (broadcastInDim S2048x254 ![] bcast_S_S2048x254 (constant (F := Ideal) S_ .f32 0x7F800000#32) (ix2 r n) : EReal) = ⊤ := (cst_at _ _ _).trans ofBits_top
  unfold cands
  refine (sel_olt _ _ _ _ _).trans ?_
  rw [e1, e2, e3, e4]

/-- A row's scale is the row specification's. -/
theorem rowScale_real (r : Fin 2048) : (rowScale y table (ix1 r) : EReal) = scaleOf (Y r.val) := by
  have e1 : Host.reduce FloatOps.minimumf (cands (F := Ideal) y table) (constant (F := Ideal) S_ .f32 0x7F800000#32) reducesTo_S2048x254_S2048_d1 h_S_ (ix1 r)
      = (Finset.range 254).inf fun j => if bound (Y r.val) < pw (j + 1) then pw (j + 1) else ⊤ := by
    refine (reduce_min (cands y table) reducesTo_S2048x254_S2048_d1 (by decide) h_S_ r).trans (eq_of_forall_le_iff fun B => ?_)
    rw [Finset.le_fold_min, Finset.le_inf_iff]
    simp only [cands_real hy, Finset.mem_range]
    exact ⟨fun h j hj => h.2 ⟨j, hj⟩ (Finset.mem_univ _), fun h => ⟨le_top, fun k _ => h k.val k.isLt⟩⟩
  have e2 : (broadcastInDim S2048 ![] bcast_S_S2048 (constant (F := Ideal) S_ .f32 0x00000000#32) (ix1 r) : EReal) = 0 := (cst_at _ _ _).trans Ideal.ofBits_zero_f32
  have e3 : (broadcastInDim S2048 ![] bcast_S_S2048 (constant (F := Ideal) S_ .f32 0x3F800000#32) (ix1 r) : EReal) = 1 := (cst_at _ _ _).trans Ideal.ofBits_one_f32
  unfold scaleOf
  unfold rowScale
  refine (sel_oeq _ _ _ _ _).trans ?_
  rw [e1, e2, e3, rowTop_real hy r]

end

end Cert.ReferenceIdeal.Hand

end
-- ==== Proof.KHost.lean ====
/-
  What the kernel's host lines hand to the kernel: the rows, the mix matrix (the 36 × 36 factor spread over halves of a block,
  three copies side by side), the sign matrix and the weight's scales as a row.
-/
module

public import proofs.«01_k».proof.Proof.Spec
public import proofs.«01_k».proof.Proof.KVal
public import proofs.«01_k».proof.Proof.KTile
public import proofs.«01_k».proof.Proof.RefVal
public import proofs.«01_k».proof.Proof.Gen.KernelIdeal.Frame
public import Idealize.ShloMosaic.Lib.StableHlo.RunRead

@[expose] public section

set_option maxRecDepth 65536

noncomputable section

namespace Cert.KernelIdeal.Hand

open Cert.KernelIdeal Cert.KernelIdeal.Gen Cert.Hand
open Idealize.ShloMosaic hiding ix1 ix2 ix3 ix4
open Idealize.ShloMosaic.TcCoe Idealize.ShloMosaic.Tactic Idealize.ShloMosaic.ValueIdx

section

variable {F : FTy → Type} [FloatOps F]

/-- The 2 × 2 identity's words. -/
def eyeBits : IVec S2x2 1 := cmpi .eq (addi (iotaInDim S2x2 32 0) (broadcastInDim S2x2 ![] bcast_S_S2x2 (constantI S_ 32 0#32))) (iotaInDim S2x2 32 1)

/-- The mix matrix before its three copies. -/
def mix4 (had : FVec F S36x36 .f32) (e : FVec F S2x2 .f32) : FVec F S36x2x36x2 .f32 :=
  mulf (broadcastInDim S36x2x36x2 ![0, 1, 2, 3] bcast_S36x1x36x1_S36x2x36x2_0_1_2_3 (broadcastInDim S36x1x36x1 ![0, 2] bcast_S36x36_S36x1x36x1_0_2 had))
    (broadcastInDim S36x2x36x2 ![0, 1, 2, 3] bcast_S1x2x1x2_S36x2x36x2_0_1_2_3 (broadcastInDim S1x2x1x2 ![1, 3] bcast_S2x2_S1x2x1x2_1_3 e))

/-- The mix matrix as the kernel gets it. -/
def mixMat (had : FVec F S36x36 .f32) : FVec F S72x216 .f32 :=
  shapeCast S72x216 (broadcastInDim S1x72x3x72 ![0, 1, 2, 3] bcast_S1x72x1x72_S1x72x3x72_0_1_2_3
    (shapeCast S1x72x1x72 (shapeCast S72x72 (mix4 had (uitofp .f32 eyeBits)) shapeCasts_S36x2x36x2_S72x72) shapeCasts_S72x72_S1x72x1x72)) shapeCasts_S1x72x3x72_S72x216

variable (m : (ℓ : Loc nD τ sig) → Buf (Elt F) ℓ)

/-- The kernel's first argument: the activations as 2048 rows. -/
theorem V_0 (c : Dev nD) : V m c main_v0 = shapeCast S2048x9216 (m (c, Proc.devRef .tc main_arg0)) shapeCasts_S2x1024x9216_S2048x9216 := by
  unfold V
  after_reads_simp
  rfl

/-- The kernel's constant: the sign matrix by its words. -/
theorem V_cst (c : Dev nD) : V m c main_cst = fun i => FloatOps.ofBits .bf16 (lit0 (S256x256.rowMajor i)) := by
  unfold V
  after_reads_simp
  rfl

/-- The kernel's second argument: the mix matrix. -/
theorem V_15 (c : Dev nD) : V m c main_v15 = mixMat (m (c, Proc.devRef .tc main_arg1)) := by
  unfold V
  after_reads_simp
  rfl

/-- The kernel's last argument: the weight's scales as a row. -/
theorem V_16 (c : Dev nD) : V m c main_v16 = shapeCast S1x2304 (m (c, Proc.devRef .tc main_arg3)) shapeCasts_S2304_S1x2304 := by
  unfold V
  after_reads_simp
  rfl

end

/-! ### The mix matrix's entries -/

/-- The bits of the 2 × 2 identity. -/
theorem eyeBits_at : ∀ a b : Fin 2, eyeBits (ix2 a b) = if a.val = b.val then 1#1 else 0#1 := by decide +kernel

/-- The 2 × 2 identity as numbers. -/
theorem eye_at (a b : Fin 2) : (uitofp (F := Ideal) .f32 eyeBits (ix2 a b) : EReal) = (((if a.val = b.val then 1 else 0 : ℝ)) : EReal) := by
  show ((((eyeBits (ix2 a b)).toNat : ℝ)) : EReal) = _
  rw [eyeBits_at]
  split <;> simp

/-- An entry of the outer product of the factor and the identity. -/
theorem mix4_at (had : FVec Ideal S36x36 .f32) (e : FVec Ideal S2x2 .f32) (a k : Fin 36) (i l : Fin 2) :
    (mix4 had e (ix4 a i k l) : EReal) = had (ix2 a k) * e (ix2 i l) := by
  unfold mix4
  refine congrArg₂ (fun a b : EReal => a * b) ?_ ?_
  · refine (broadcastInDim_apply _ _ _ _ (ix4 a (0 : Fin 1) k (0 : Fin 1)) (fun ax => ?_)).trans (broadcastInDim_apply _ _ _ _ (ix2 a k) (fun ax => ?_))
    · match ax with
      | ⟨0, _⟩ => rfl
      | ⟨1, _⟩ => rfl
      | ⟨2, _⟩ => rfl
      | ⟨3, _⟩ => rfl
    · match ax with
      | ⟨0, _⟩ => rfl
      | ⟨1, _⟩ => rfl
  · refine (broadcastInDim_apply _ _ _ _ (ix4 (0 : Fin 1) i (0 : Fin 1) l) (fun ax => ?_)).trans (broadcastInDim_apply _ _ _ _ (ix2 i l) (fun ax => ?_))
    · match ax with
      | ⟨0, _⟩ => rfl
      | ⟨1, _⟩ => rfl
      | ⟨2, _⟩ => rfl
      | ⟨3, _⟩ => rfl
    · match ax with
      | ⟨0, _⟩ => rfl
      | ⟨1, _⟩ => rfl

/-- An entry of the mix matrix: an entry of the factor, or zero between different halves. -/
theorem mixMat_at (had : FVec Ideal S36x36 .f32) {hr : ℕ → ℕ → ℝ} (hh : ∀ (a k : Fin 36), had (ix2 a k) = ((hr a.val k.val : ℝ) : EReal)) (r : Fin 72) (k : Fin 216) :
    (mixMat had (ix2 r k) : EReal) = ((mixOf hr r.val (k.val % 72) : ℝ) : EReal) := by
  have h1 := r.isLt
  have h2 := k.isLt
  have h3 : k.val % 72 < 72 := Nat.mod_lt _ (by norm_num)
  unfold mixMat
  refine (shapeCast_apply _ _ _ (ix4 (0 : Fin 1) r (⟨k.val / 72, by omega⟩ : Fin 3) (⟨k.val % 72, h3⟩ : Fin 72)) ?_).trans ?_
  · rw [Shape.rowMajor_val_two, Shape.rowMajor_val_four]
    show ((0 * 72 + r.val) * 3 + k.val / 72) * 72 + k.val % 72 = r.val * 216 + k.val
    omega
  refine (broadcastInDim_apply _ _ _ _ (ix4 (0 : Fin 1) r (0 : Fin 1) (⟨k.val % 72, h3⟩ : Fin 72)) (fun ax => ?_)).trans ?_
  · match ax with
    | ⟨0, _⟩ => rfl
    | ⟨1, _⟩ => rfl
    | ⟨2, _⟩ => rfl
    | ⟨3, _⟩ => rfl
  refine (shapeCast_apply _ _ _ (ix2 r (⟨k.val % 72, h3⟩ : Fin 72)) ?_).trans ?_
  · rw [Shape.rowMajor_val_two, Shape.rowMajor_val_four]
    show r.val * 72 + k.val % 72 = ((0 * 72 + r.val) * 1 + 0) * 72 + k.val % 72
    omega
  refine (shapeCast_apply _ _ _ (ix4 (⟨r.val / 2, by omega⟩ : Fin 36) (⟨r.val % 2, Nat.mod_lt _ (by norm_num)⟩ : Fin 2)
    (⟨k.val % 72 / 2, by omega⟩ : Fin 36) (⟨k.val % 72 % 2, Nat.mod_lt _ (by norm_num)⟩ : Fin 2)) ?_).trans ?_
  · rw [Shape.rowMajor_val_two, Shape.rowMajor_val_four]
    show ((r.val / 2 * 2 + r.val % 2) * 36 + k.val % 72 / 2) * 2 + k.val % 72 % 2 = r.val * 72 + k.val % 72
    omega
  rw [mix4_at, hh, eye_at, ← EReal.coe_mul]
  rfl

/-! ### The split of the mix matrix into three bf16 pieces, of which two vanish -/

/-- Over the extended reals the truncation of a float to its upper half is the identity. -/
theorem pay1_eq (v : FVec Ideal S72x216 .f32) : k0_pay1 (F := Ideal) v = v := by
  funext i; exact shapeCast_apply v _ _ _ rfl

/-- So the first piece of the split is the matrix. -/
theorem pay2_eq (v : FVec Ideal S72x216 .f32) : k0_pay2 (F := Ideal) v = v := Eq.trans (b := k0_pay1 (F := Ideal) v) rfl (pay1_eq v)

/-- The first piece, cast to bf16, is the matrix. -/
theorem pay5_eq (v : FVec Ideal S72x216 .f32) : k0_pay5 (F := Ideal) v = v := Eq.trans (b := k0_pay2 (F := Ideal) v) rfl (pay2_eq v)

/-- A number less itself is zero (which fails for the infinities). -/
theorem sub_self_real (a : ℝ) : (a : EReal) - (a : EReal) = 0 := by rw [← EReal.coe_sub, sub_self]; rfl

/-- What the first piece leaves of a number is zero. -/
theorem pay3_at (v : FVec Ideal S72x216 .f32) (i : S72x216.Idx) (a : ℝ) (h : v i = (a : EReal)) : (k0_pay3 (F := Ideal) v i : EReal) = 0 := by
  have e : (k0_pay3 (F := Ideal) v i : EReal) = (k0_pay1 (F := Ideal) v i : EReal) - k0_pay2 (F := Ideal) v i := rfl
  rw [e, pay1_eq, pay2_eq, h]; exact sub_self_real a

/-- The second piece of a number is zero. -/
theorem pay6_at (v : FVec Ideal S72x216 .f32) (i : S72x216.Idx) (a : ℝ) (h : v i = (a : EReal)) : (k0_pay6 (F := Ideal) v i : EReal) = 0 :=
  (show (k0_pay6 (F := Ideal) v i : EReal) = k0_pay3 (F := Ideal) v i from rfl).trans (pay3_at v i a h)

/-- The third piece of a number is zero. -/
theorem pay7_at (v : FVec Ideal S72x216 .f32) (i : S72x216.Idx) (a : ℝ) (h : v i = (a : EReal)) : (k0_pay7 (F := Ideal) v i : EReal) = 0 := by
  have e : (k0_pay7 (F := Ideal) v i : EReal) = (k0_pay3 (F := Ideal) v i : EReal) - k0_pay3 (F := Ideal) v i := rfl
  rw [e, pay3_at v i a h]; exact sub_self_real 0

end Cert.KernelIdeal.Hand

end
-- ==== Proof.Lit.lean ====
/-
  The kernel's constant sign matrix, entry by entry: `+1` or `−1` by the parity of the bits its two indices share.
-/
module

public import proofs.«01_k».proof.Proof.Sign
public import proofs.«01_k».proof.Proof.Gen.KernelIdeal.Frame
public import Idealize.ShloMosaic.Lib.IdealHost

@[expose] public section

set_option maxRecDepth 65536

noncomputable section

namespace Cert.KernelIdeal.Hand

open Cert.KernelIdeal.Gen Cert.Hand
open Idealize.ShloMosaic Idealize.ShloMosaic.TcCoe Idealize.ShloMosaic.Tactic Idealize.ShloMosaic.ValueIdx

/-- Whether the low `k` bits of two numbers share an odd number of ones. -/
def odd : ℕ → ℕ → ℕ → Bool
  | 0, _, _ => false
  | k + 1, p, q => xor (odd k p q) (Nat.beq (p / 2 ^ k % 2) 1 && Nat.beq (q / 2 ^ k % 2) 1)

theorem sgn_odd (k p q : ℕ) : sgn k p q = if odd k p q then -1 else 1 := by
  induction k with
  | zero => simp [sgn, odd]
  | succ k ih =>
    simp only [sgn, odd, ih]
    by_cases hp : p / 2 ^ k % 2 = 1 <;> by_cases hq : q / 2 ^ k % 2 = 1 <;> by_cases ho : odd k p q = true <;> simp [hp, hq, ho]

/-- The rows `32a … 32a + 31` of the constant are the sign matrix's. -/
def RowsOk (a : ℕ) : Prop :=
  ∀ p : Fin 32, ∀ q : Fin 256, lit0t (256 * (32 * a + p.val) + q.val) = if odd 8 (32 * a + p.val) q.val then 0xBF80#16 else 0x3F80#16

end Cert.KernelIdeal.Hand

end
-- ==== Proof.LitA.lean ====
/-
  The rows 0 to 63 of the kernel's constant, checked entry by entry (RowsOk, Lit.lean).
-/
module

public import proofs.«01_k».proof.Proof.Lit

@[expose] public section

set_option maxRecDepth 65536

noncomputable section

namespace Cert.KernelIdeal.Hand

theorem rowsOk0 : RowsOk 0 := by unfold RowsOk; decide +kernel

theorem rowsOk1 : RowsOk 1 := by unfold RowsOk; decide +kernel

end Cert.KernelIdeal.Hand

end
-- ==== Proof.LitB.lean ====
/-
  The rows 64 to 127 of the kernel's constant, checked entry by entry (RowsOk, Lit.lean).
-/
module

public import proofs.«01_k».proof.Proof.LitA

@[expose] public section

set_option maxRecDepth 65536

noncomputable section

namespace Cert.KernelIdeal.Hand

theorem rowsOk2 : RowsOk 2 := by unfold RowsOk; decide +kernel

theorem rowsOk3 : RowsOk 3 := by unfold RowsOk; decide +kernel

end Cert.KernelIdeal.Hand

end
-- ==== Proof.LitC.lean ====
/-
  The rows 128 to 191 of the kernel's constant, checked entry by entry (RowsOk, Lit.lean).
-/
module

public import proofs.«01_k».proof.Proof.LitB

@[expose] public section

set_option maxRecDepth 65536

noncomputable section

namespace Cert.KernelIdeal.Hand

theorem rowsOk4 : RowsOk 4 := by unfold RowsOk; decide +kernel

theorem rowsOk5 : RowsOk 5 := by unfold RowsOk; decide +kernel

end Cert.KernelIdeal.Hand

end
-- ==== Proof.LitD.lean ====
/-
  The rows 192 to 255 of the kernel's constant, checked entry by entry (RowsOk, Lit.lean).
-/
module

public import proofs.«01_k».proof.Proof.LitC

@[expose] public section

set_option maxRecDepth 65536

noncomputable section

namespace Cert.KernelIdeal.Hand

theorem rowsOk6 : RowsOk 6 := by unfold RowsOk; decide +kernel

theorem rowsOk7 : RowsOk 7 := by unfold RowsOk; decide +kernel

end Cert.KernelIdeal.Hand

end
-- ==== Proof.LitVal.lean ====
/-
  Every entry of the kernel's constant, as a number: the sign matrix's (Sign.lean).
-/
module

public import proofs.«01_k».proof.Proof.LitA
public import proofs.«01_k».proof.Proof.LitB
public import proofs.«01_k».proof.Proof.LitC
public import proofs.«01_k».proof.Proof.LitD

@[expose] public section

set_option maxRecDepth 65536

noncomputable section

namespace Cert.KernelIdeal.Hand

open Cert.KernelIdeal Cert.Hand Idealize.ShloMosaic

theorem rowsOk : ∀ a < 8, RowsOk a
  | 0, _ => rowsOk0
  | 1, _ => rowsOk1
  | 2, _ => rowsOk2
  | 3, _ => rowsOk3
  | 4, _ => rowsOk4
  | 5, _ => rowsOk5
  | 6, _ => rowsOk6
  | 7, _ => rowsOk7
  | n + 8, h => absurd h (by omega)

/-- An entry of the constant, as a number. -/
theorem lit_real (i : Fin 65536) : Ideal.ofBits .bf16 (lit0 i) = ((sgn 8 (i.val / 256) (i.val % 256) : ℝ) : EReal) := by
  have hi := i.isLt
  have h := rowsOk (i.val / 256 / 32) (by omega) ⟨i.val / 256 % 32, Nat.mod_lt _ (by norm_num)⟩ ⟨i.val % 256, Nat.mod_lt _ (by norm_num)⟩
  dsimp only at h
  rw [show 32 * (i.val / 256 / 32) + i.val / 256 % 32 = i.val / 256 by omega, show 256 * (i.val / 256) + i.val % 256 = i.val by omega] at h
  have e : lit0 i = lit0t i.val := rfl
  rw [e, h, sgn_odd]
  split
  · exact Ideal.ofBits_neg_one_bf16
  · exact Ideal.ofBits_one_bf16

end Cert.KernelIdeal.Hand

end
-- ==== Proof.KRes.lean ====
/-
  The kernel's three results over finite arguments, row by row: the row specification's scale, codes and outputs (Spec.lean).
-/
module

public import proofs.«01_k».proof.Proof.KSpec
public import proofs.«01_k».proof.Proof.KHost
public import proofs.«01_k».proof.Proof.IFrame
public import proofs.«01_k».proof.Proof.LitVal
public import Idealize.ShloMosaic.Lib.Pipeline.ValueKit

@[expose] public section

set_option maxRecDepth 65536

noncomputable section

namespace Cert.KernelIdeal.Hand

open Cert.KernelIdeal Cert.KernelIdeal.Gen Cert.Hand
open Cert.ReferenceIdeal.Hand (Finite)
open Idealize.ShloMosaic hiding ix1 ix2 ix3 ix4
open Idealize.ShloMosaic.TcCoe Idealize.ShloMosaic.Tactic Idealize.ShloMosaic.ValueIdx
open Idealize.SL.Sem

/-! ### The blocks -/

section

variable (c : Dev nD) (W : (b : Ref sig .tc) → Buf (Elt Ideal) ((c : Thread nD τ).loc b))

/-- Which block each window holds at a grid point: the point's tile of rows, or the whole array. -/
theorem index_0 : ∀ t : Fin grid0.N, win0_0.index t 0 = t.val ∧ win0_0.index t 1 = 0 := by decide +kernel
theorem index_1 : ∀ (t : Fin grid0.N) a, win0_1.index t a = 0 := by decide +kernel
theorem index_2 : ∀ (t : Fin grid0.N) a, win0_2.index t a = 0 := by decide +kernel
theorem index_3 : ∀ (t : Fin grid0.N) a, win0_3.index t a = 0 := by decide +kernel
theorem index_4 : ∀ (t : Fin grid0.N) a, win0_4.index t a = 0 := by decide +kernel
theorem index_5 : ∀ t : Fin grid0.N, win0_5.index t 0 = t.val ∧ win0_5.index t 1 = 0 := by decide +kernel
theorem index_6 : ∀ t : Fin grid0.N, win0_6.index t 0 = t.val ∧ win0_6.index t 1 = 0 := by decide +kernel
theorem index_7 : ∀ t : Fin grid0.N, win0_7.index t 0 = t.val ∧ win0_7.index t 1 = 0 := by decide +kernel

/-- The grid has eight points. -/
theorem points (t : Fin grid0.N) : t.val < 8 := lt_of_lt_of_eq t.isLt (by decide +kernel)

/-- A grid point's block of the activations is its 256 rows. -/
theorem read_0 (t : Fin grid0.N) (y : S256x9216.Idx) (i : S2048x9216.Idx) (h0 : (i 0).val = 256 * t.val + (y 0).val) (h1 : (i 1).val = (y 1).val) :
    ((cfg0.win 0).blk t).view.read (Elt Ideal) (W (Pipeline.arrRef spec0 0)) y = W main_v0 i := by
  have e := index_0 t
  blk_simp
  refine congrArg (W main_v0) ?_
  blk_ext [e.1, e.2, h0, h1]

/-- The other inputs' blocks are whole arrays, at every grid point. -/
theorem read_1 (t : Fin grid0.N) : ((cfg0.win 1).blk t).view.read (Elt Ideal) (W (Pipeline.arrRef spec0 1)) = W main_v15 := by
  funext y; blk_simp
  refine congrArg (W main_v15) ?_
  blk_ext [index_1]

theorem read_2 (t : Fin grid0.N) : ((cfg0.win 2).blk t).view.read (Elt Ideal) (W (Pipeline.arrRef spec0 2)) = W main_cst := by
  funext y; blk_simp
  refine congrArg (W main_cst) ?_
  blk_ext [index_2]

theorem read_3 (t : Fin grid0.N) : ((cfg0.win 3).blk t).view.read (Elt Ideal) (W (Pipeline.arrRef spec0 3)) = W main_arg2 := by
  funext y; blk_simp
  refine congrArg (W main_arg2) ?_
  blk_ext [index_3]

theorem read_4 (t : Fin grid0.N) : ((cfg0.win 4).blk t).view.read (Elt Ideal) (W (Pipeline.arrRef spec0 4)) = W main_v16 := by
  funext y; blk_simp
  refine congrArg (W main_v16) ?_
  blk_ext [index_4]

end

/-! ### A tile over finite arguments -/

/-- A tile is fine when its rows, its sign factor and its mix matrix are what they should be. -/
theorem fine_of (X : Vec Ideal S256x9216 .bf16) (S : Vec Ideal S256x256 .bf16) (M : FVec Ideal S72x216 .f32) (xT hr : ℕ → ℕ → ℝ)
    (hX : ∀ (r : Fin 256) (j : Fin 9216), X (ix2 r j) = ((xT r.val j.val : ℝ) : EReal))
    (hS : ∀ q p : Fin 256, S (ix2 q p) = ((sgn 8 p.val q.val : ℝ) : EReal))
    (hM : ∀ (r : Fin 72) (k : Fin 216), M (ix2 r k) = ((mixOf hr r.val (k.val % 72) : ℝ) : EReal))
    (bx : ∀ r j, |xT r j| ≤ xMax) (bh : ∀ a k, |hr a k| ≤ 1) :
    Fine X S (k0_pay5 M) (k0_pay6 M) (k0_pay7 M) (fun r j => xT (r % 256) (j % 9216)) hr where
  hx r j := hX (Fin.ofNat 256 r) (Fin.ofNat 9216 j)
  hs q hq p hp := (rd2_lt S hq hp).trans (hS ⟨q, hq⟩ ⟨p, hp⟩)
  h1 r hr' k hk := (rd2_lt _ hr' hk).trans ((congrFun (pay5_eq M) _).trans (hM ⟨r, hr'⟩ ⟨k, hk⟩))
  h2 r hr' k hk := (rd2_lt _ hr' hk).trans (pay6_at M _ _ (hM ⟨r, hr'⟩ ⟨k, hk⟩))
  h3 r hr' k hk := (rd2_lt _ hr' hk).trans (pay7_at M _ _ (hM ⟨r, hr'⟩ ⟨k, hk⟩))
  bx r j := bx _ _
  bh := bh

/-- The sign factor's entries. -/
theorem sign_at (q p : Fin 256) : Ideal.ofBits .bf16 (lit0 (S256x256.rowMajor (ix2 q p))) = ((sgn 8 p.val q.val : ℝ) : EReal) := by
  have hp := p.isLt
  have hv : (S256x256.rowMajor (ix2 q p)).val = q.val * 256 + p.val := Shape.rowMajor_val_two _
  refine (lit_real (S256x256.rowMajor (ix2 q p))).trans ?_
  rw [hv, show (q.val * 256 + p.val) / 256 = q.val by omega, show (q.val * 256 + p.val) % 256 = p.val by omega, sgn_comm]

/-- The weight's scale of column `n`. -/
def wsAt (ws : FVec Ideal S2304 .f32) (n : ℕ) : EReal := ws (ix1 (Fin.ofNat 2304 n))

/-- An entry of the weight's scales. -/
theorem wsAt_val (ws : FVec Ideal S2304 .f32) (n : Fin 2304) : (ws (ix1 n) : EReal) = wsAt ws n.val := by
  unfold wsAt; rw [Fin.ofNat_val_eq_self]

/-- The three results, row by row. -/
def resOut (hr xr : ℕ → ℕ → ℝ) (w : Vec Ideal S9216x2304 .fp8e4m3) (ws : FVec Ideal S2304 .f32) (r n : ℕ) : EReal :=
  outOf (rowOf hr (xr r)) (fun j => rd2 (a := 9216) (b := 2304) w j n) (wsAt ws n)
/-- An entry of the codes, for the factor and the activations. -/
def resCode (hr xr : ℕ → ℕ → ℝ) (r j : ℕ) : EReal := codeOf (rowOf hr (xr r)) j
/-- A row's scale, for the factor and the activations. -/
def resScale (hr xr : ℕ → ℕ → ℝ) (r : ℕ) : EReal := scaleOf (rowOf hr (xr r))

section

variable (m : (ℓ : Loc nD τ sig) → Buf (Elt Ideal) ℓ) {hr xr : ℕ → ℕ → ℝ} (c : Dev nD)
  (H : Finite (m (c, Proc.devRef .tc main_arg1)) (m (c, Proc.devRef .tc main_arg0)) hr xr)
  (hper : ∀ r j, xr r (j % 9216) = xr r j)

/-- The body's input blocks, as whole arrays. -/
theorem iblk_1 (t : Fin cfg0.N) : iblk m c 1 t = V m c main_v15 := by unfold iblk; exact read_1 c (V m c) t
theorem iblk_2 (t : Fin cfg0.N) : iblk m c 2 t = V m c main_cst := by unfold iblk; exact read_2 c (V m c) t
theorem iblk_3 (t : Fin cfg0.N) : iblk m c 3 t = V m c main_arg2 := by unfold iblk; exact read_3 c (V m c) t
theorem iblk_4 (t : Fin cfg0.N) : iblk m c 4 t = V m c main_v16 := by unfold iblk; exact read_4 c (V m c) t

/-- An entry of the body's activations block. -/
theorem iblk_0 (t : Fin cfg0.N) (r : Fin 256) (j : Fin 9216) (R : Fin 2048) (hR : R.val = 256 * t.val + r.val) :
    (show Vec Ideal S256x9216 .bf16 from iblk m c 0 t) (ix2 r j) = V m c main_v0 (ix2 R j) := by
  unfold iblk; exact read_0 c (V m c) t (ix2 r j) (ix2 R j) hR rfl

/-- The weight's scales, handed over as a row. -/
theorem v16_at (n : Fin 2304) : (V m c main_v16 (ix2 (0 : Fin 1) n) : EReal) = m (c, Proc.devRef .tc main_arg3) (ix1 n) := by
  refine (congrFun (V_16 m c) (ix2 (0 : Fin 1) n)).trans (shapeCast_apply _ _ _ (ix1 n) ?_)
  rw [Shape.rowMajor_val_two, Shape.rowMajor_val_one]
  show n.val = 0 * 2304 + n.val
  omega

include H

/-- The activations, handed over as rows. -/
theorem v0_at (R : Fin 2048) (j : Fin 9216) : (V m c main_v0 (ix2 R j) : EReal) = ((xr R.val j.val : ℝ) : EReal) := by
  have hR := R.isLt
  refine (congrFun (V_0 m c) (ix2 R j)).trans ((shapeCast_apply _ _ _ (ix3 (⟨R.val / 1024, by omega⟩ : Fin 2) (⟨R.val % 1024, Nat.mod_lt _ (by norm_num)⟩ : Fin 1024) j) ?_).trans ?_)
  · rw [Shape.rowMajor_val_two, Shape.rowMajor_val_three]
    show (R.val / 1024 * 1024 + R.val % 1024) * 9216 + j.val = R.val * 9216 + j.val
    omega
  refine (H.hx _ _ _).trans ?_
  dsimp only
  rw [show 1024 * (R.val / 1024) + R.val % 1024 = R.val by omega]

/-- A tile over finite arguments meets what KTile.lean asks of it. -/
theorem fine (t : Fin cfg0.N) :
    Fine (iblk m c 0 t) (iblk m c 2 t) (k0_pay5 (iblk m c 1 t)) (k0_pay6 (iblk m c 1 t)) (k0_pay7 (iblk m c 1 t))
      (fun r j => xr (256 * t.val + r % 256) (j % 9216)) hr := by
  have ht := points t
  rw [iblk_1, iblk_2]
  refine fine_of _ _ _ (fun r j => xr (256 * t.val + r) j) hr (fun r j => ?_) (fun q p => ?_) (fun r k => ?_) (fun r j => H.bx _ _) H.bh
  · have hr := r.isLt
    exact (iblk_0 m c t r j ⟨256 * t.val + r.val, by omega⟩ rfl).trans (v0_at m c H ⟨256 * t.val + r.val, by omega⟩ j)
  · exact (congrFun (V_cst m c) (ix2 q p)).trans (sign_at q p)
  · exact (congrFun (V_15 m c) (ix2 r k)).trans (mixMat_at _ H.hh r k)

include hper

omit H in
/-- A row inside its tile. -/
theorem row_eq (t : Fin cfg0.N) (r : ℕ) (h : r < 256) : (fun j => xr (256 * t.val + r % 256) (j % 9216)) = xr (256 * t.val + r) := by
  funext j; rw [hper, Nat.mod_eq_of_lt h]

/-- The scales that a grid point leaves are the row specification's. -/
theorem scalesAt_at (t : Fin cfg0.N) (y : S256x1.Idx) : (scalesAt m c t y : EReal) = scaleOf (rowOf hr (xr (256 * t.val + (y 0).val))) := by
  unfold scalesAt
  refine (scalesV_real (fine m c H t) y).trans ?_
  rw [← row_eq hper t (y 0).val (y 0).isLt]

/-- The codes that a grid point leaves are the row specification's. -/
theorem codesAt_at (t : Fin cfg0.N) (y : S256x9216.Idx) : (codesAt m c t y : EReal) = codeOf (rowOf hr (xr (256 * t.val + (y 0).val))) (y 1).val := by
  unfold codesAt
  refine (codesV_real (fine m c H t) y).trans ?_
  rw [← row_eq hper t (y 0).val (y 0).isLt]

/-- The outputs that a grid point leaves are the row specification's. -/
theorem outAt_at (t : Fin cfg0.N) (y : S256x2304.Idx) : (outAt m c t y : EReal) = outOf (rowOf hr (xr (256 * t.val + (y 0).val)))
    (fun j => rd2 (a := 9216) (b := 2304) (V m c main_arg2) j (y 1).val) (wsAt (m (c, Proc.devRef .tc main_arg3)) (y 1).val) := by
  have hy : (y 0).val < 256 := (y 0).isLt
  have hy1 : (y 1).val < 2304 := (y 1).isLt
  unfold outAt
  rw [iblk_3, iblk_4]
  refine (outV_real _ _ _ _ y).trans ?_
  unfold outOf
  refine congrArg₂ (fun a b : EReal => a * b) (congrArg₂ (fun a b : EReal => a * b) (Finset.sum_congr rfl fun j hj => congrArg₂ (fun a b : EReal => a * b) ?_ rfl) ?_) ?_
  · exact (rd2_lt _ hy (Finset.mem_range.mp hj)).trans (codesAt_at m c H hper t (ix2 ⟨(y 0).val, hy⟩ ⟨j, Finset.mem_range.mp hj⟩))
  · exact (rd2_lt _ hy (by norm_num)).trans (scalesAt_at m c H hper t (ix2 ⟨(y 0).val, hy⟩ (0 : Fin 1)))
  · exact (rd2_lt (a := 1) (b := 2304) _ (by norm_num) hy1).trans ((v16_at m c ⟨(y 1).val, hy1⟩).trans (wsAt_val _ ⟨(y 1).val, hy1⟩))

/-! ### The result arrays -/

/-- The scales' array when the kernel is done. -/
theorem arr7 : (dats m 0 c).arrAt 7 cfg0.N = fun i : S2048x1.Idx => resScale hr xr (i 0).val := by
  refine (dats m 0 c).arrAt_eq_of_covers 7 _ (by decide +kernel) fun t hf y => ?_
  have e := index_7 t
  have h0 : ((((cfg0.win 7).blk t).view.emb y) 0).val = 256 * t.val + (y 0).val := by blk_simp; rw [e.1, Nat.mul_comm]
  refine Eq.trans ?_ (congrArg (fun a : ℕ => resScale hr xr a) h0.symm)
  blk_simp
  rw [after0_7]
  exact scalesAt_at m c H hper t y

/-- The codes' array when the kernel is done. -/
theorem arr6 : (dats m 0 c).arrAt 6 cfg0.N = fun i : S2048x9216.Idx => resCode hr xr (i 0).val (i 1).val := by
  refine (dats m 0 c).arrAt_eq_of_covers 6 _ (by decide +kernel) fun t hf y => ?_
  have e := index_6 t
  have h0 : ((((cfg0.win 6).blk t).view.emb y) 0).val = 256 * t.val + (y 0).val := by blk_simp; rw [e.1, Nat.mul_comm]
  have h1 : ((((cfg0.win 6).blk t).view.emb y) 1).val = (y 1).val := by blk_simp; rw [e.2, Nat.zero_mul, Nat.zero_add]
  refine Eq.trans ?_ (congrArg₂ (fun a b : ℕ => resCode hr xr a b) h0.symm h1.symm)
  blk_simp
  rw [after0_6]
  exact codesAt_at m c H hper t y

/-- The outputs' array when the kernel is done. -/
theorem arr5 : (dats m 0 c).arrAt 5 cfg0.N = fun i : S2048x2304.Idx => resOut hr xr (V m c main_arg2) (m (c, Proc.devRef .tc main_arg3)) (i 0).val (i 1).val := by
  refine (dats m 0 c).arrAt_eq_of_covers 5 _ (by decide +kernel) fun t hf y => ?_
  have e := index_5 t
  have h0 : ((((cfg0.win 5).blk t).view.emb y) 0).val = 256 * t.val + (y 0).val := by blk_simp; rw [e.1, Nat.mul_comm]
  have h1 : ((((cfg0.win 5).blk t).view.emb y) 1).val = (y 1).val := by blk_simp; rw [e.2, Nat.zero_mul, Nat.zero_add]
  refine Eq.trans ?_ (congrArg₂ (fun a b : ℕ => resOut hr xr (V m c main_arg2) (m (c, Proc.devRef .tc main_arg3)) a b) h0.symm h1.symm)
  blk_simp
  rw [after0_5]
  exact outAt_at m c H hper t y

end

end Cert.KernelIdeal.Hand

end
-- ==== Proof.RefOut.lean ====
/-
  The reference's three results over finite arguments, row by row: the row specification's scale, codes and outputs (Spec.lean).
-/
module

public import proofs.«01_k».proof.Proof.RefVal
public import proofs.«01_k».proof.Proof.Gen.ReferenceIdeal.Value
public import proofs.«01_k».proof.Proof.KTile
public import Idealize.ShloMosaic.Lib.Pipeline.ValueKit

@[expose] public section

set_option maxRecDepth 65536

noncomputable section

namespace Cert.ReferenceIdeal.Hand

open Cert.ReferenceIdeal Cert.ReferenceIdeal.Gen Cert.Hand
open Idealize.ShloMosaic hiding ix1 ix2 ix3 ix4
open Idealize.ShloMosaic.TcCoe Idealize.ShloMosaic.Tactic Idealize.ShloMosaic.ValueIdx
open Idealize.SL.Sem

/-! ### What the body leaves, at an index -/

/-- A two-axis index is made of its coordinates. -/
theorem ix2_eta {a b : ℕ} (i : (⟨2, ![a, b]⟩ : Shape).Idx) : i = ix2 (i 0) (i 1) := by
  funext c; apply Fin.ext
  fin_cases c <;> rfl

/-- The body's codes. -/
theorem pay1_at (sc : Vec Ideal S2048x1 .f32) (y : Vec Ideal S2048x9216 .f32) (r : Fin 2048) (j : Fin 9216) :
    (k0_pay1 (F := Ideal) sc y (ix2 r j) : EReal)
      = min (Ideal.ofBits .f32 0x43E00000#32) (max (Ideal.ofBits .f32 0xC3E00000#32) ((y (ix2 r j) : EReal) * Ideal.div 1 (sc (ix2 r (0 : Fin 1))))) := by
  have e1 : (shapeCast S2048x9216 y shapeCasts_S2048x9216_S2048x9216) = y := by funext i; exact shapeCast_apply y _ _ _ rfl
  have e2 : (shapeCast S2048x1 sc shapeCasts_S2048x1_S2048x1) = sc := by funext i; exact shapeCast_apply sc _ _ _ rfl
  have e3 : (broadcastTo S2048x9216 (divf (F := Ideal) (φ := .f32) (broadcast S2048x1 (Scalar.ofBits .f32 0x3F800000#32)) sc) broadcasts_S2048x1_S2048x9216 (ix2 r j) : EReal)
      = Ideal.div 1 (sc (ix2 r (0 : Fin 1))) := by
    refine (broadcastTo_apply _ _ _ (ix2 r (0 : Fin 1)) (fun ax => ?_)).trans ?_
    · match ax with
      | ⟨0, _⟩ => rfl
      | ⟨1, _⟩ => rfl
    rw [← Ideal.ofBits_one_f32]; rfl
  rw [← e3]
  unfold k0_pay1
  rw [e1, e2]
  rfl

/-- The body's outputs. -/
theorem pay2_at (cd : Vec Ideal S2048x9216 .fp8e4m3) (sc : Vec Ideal S2048x1 .f32) (y : Vec Ideal S2048x9216 .f32) (w : Vec Ideal S9216x2304 .fp8e4m3)
    (ws : Vec Ideal S1x2304 .f32) (hcd : k0_pay1 (F := Ideal) sc y = cd) (r : Fin 2048) (n : Fin 2304) :
    (k0_pay2 (F := Ideal) sc y w sc ws (ix2 r n) : EReal)
      = (∑ j : Fin 9216, (cd (ix2 r j) : EReal) * w (ix2 j n)) * sc (ix2 r (0 : Fin 1)) * ws (ix2 (0 : Fin 1) n) := by
  have e2 : (shapeCast S2048x1 sc shapeCasts_S2048x1_S2048x1) = sc := by funext i; exact shapeCast_apply sc _ _ _ rfl
  have e4 : (shapeCast S1x2304 ws shapeCasts_S1x2304_S1x2304) = ws := by funext i; exact shapeCast_apply ws _ _ _ rfl
  have e3 : (broadcastTo S2048x2304 sc broadcasts_S2048x1_S2048x2304 (ix2 r n) : EReal) = sc (ix2 r (0 : Fin 1)) := by
    refine broadcastTo_apply _ _ _ (ix2 r (0 : Fin 1)) (fun ax => ?_)
    match ax with
    | ⟨0, _⟩ => rfl
    | ⟨1, _⟩ => rfl
  have e5 : (broadcastTo S2048x2304 ws broadcasts_S1x2304_S2048x2304 (ix2 r n) : EReal) = ws (ix2 (0 : Fin 1) n) := by
    refine broadcastTo_apply _ _ _ (ix2 (0 : Fin 1) n) (fun ax => ?_)
    match ax with
    | ⟨0, _⟩ => rfl
    | ⟨1, _⟩ => rfl
  have e0 : (constant S2048x2304 .f32 0x00000000#32 : FVec Ideal S2048x2304 .f32) (ix2 r n) = 0 := Ideal.ofBits_zero_f32
  have em : (FloatOps.matmul (F := Ideal) (DotDims.plain 2048 9216 2304) none (φ₁ := .fp8e4m3) (φ₂ := .fp8e4m3) cd w (constant S2048x2304 .f32 0x00000000#32) : FVec Ideal S2048x2304 .f32)
      (ix2 r n) = ∑ j : Fin 9216, (cd (ix2 r j) : EReal) * w (ix2 j n) := by
    rw [Ideal.matmul_plain_apply, e0, zero_add]
  rw [← em, ← e3, ← e5]
  unfold k0_pay2
  rw [hcd, e2, e4]
  rfl

/-! ### The three results -/

/-- The codes that the region computes from a row and its scale are the row specification's. -/
theorem codes_of (sc : Vec Ideal S2048x1 .f32) (y : Vec Ideal S2048x9216 .f32) (Y : ℕ → ℝ) (r : Fin 2048) (j : Fin 9216)
    (hs : sc (ix2 r (0 : Fin 1)) = scaleOf Y) (hy : y (ix2 r j) = ((Y j.val : ℝ) : EReal)) :
    (k0_pay1 (F := Ideal) sc y (ix2 r j) : EReal) = codeOf Y j.val := by
  rw [pay1_at, hs, hy]
  rfl

/-- The outputs that the region computes from a row, its scale and the weights are the row specification's. -/
theorem out_of (sc : Vec Ideal S2048x1 .f32) (y : Vec Ideal S2048x9216 .f32) (w : Vec Ideal S9216x2304 .fp8e4m3) (ws : Vec Ideal S1x2304 .f32)
    (Y : ℕ → ℝ) (r : Fin 2048) (n : Fin 2304) (v : EReal) (hs : sc (ix2 r (0 : Fin 1)) = scaleOf Y) (hy : ∀ j : Fin 9216, y (ix2 r j) = ((Y j.val : ℝ) : EReal))
    (hv : ws (ix2 (0 : Fin 1) n) = v) :
    (k0_pay2 (F := Ideal) sc y w sc ws (ix2 r n) : EReal) = outOf Y (fun j => Cert.KernelIdeal.Hand.rd2 (a := 9216) (b := 2304) w j n.val) v := by
  rw [pay2_at (k0_pay1 (F := Ideal) sc y) _ _ _ _ rfl, hs, hv]
  unfold outOf
  rw [← Fin.sum_univ_eq_sum_range (fun j => codeOf Y j * (Cert.KernelIdeal.Hand.rd2 (a := 9216) (b := 2304) w j n.val : EReal))]
  refine congrArg (fun z : EReal => z * scaleOf Y * v) (Finset.sum_congr rfl fun k _ => congrArg₂ (fun a b : EReal => a * b) (codes_of sc y Y r k hs (hy k)) ?_)
  exact (Cert.KernelIdeal.Hand.rd2_ix2 (a := 9216) (b := 2304) w k n)

section

variable (m : (ℓ : Loc nD τ sig) → Buf (Elt Ideal) ℓ) {hr xr : ℕ → ℕ → ℝ} (c : Dev nD)
  (H : Finite (m (c, Proc.devRef .tc main_arg1)) (m (c, Proc.devRef .tc main_arg0)) hr xr)

/-- The weight's scales, handed over as a row. -/
theorem v110_at (n : Fin 2304) : (V m c main_v110 (ix2 (0 : Fin 1) n) : EReal) = m (c, Proc.devRef .tc main_arg3) (ix1 n) := by
  refine (congrFun (V_110 m c) (ix2 (0 : Fin 1) n)).trans (shapeCast_apply _ _ _ (ix1 n) ?_)
  rw [Shape.rowMajor_val_two, Shape.rowMajor_val_one]
  show n.val = 0 * 2304 + n.val
  omega

include H

/-- The rotated rows are the row specification's. -/
theorem y_at (r : Fin 2048) (j : Fin 9216) : (yV m c (ix2 r j) : EReal) = ((rowOf hr (xr r.val) j.val : ℝ) : EReal) := by
  unfold yV
  exact rows_real H r j

/-- The scales handed to the region, row by row. -/
theorem scales_at (r : Fin 2048) : (V m c main_v109 (ix2 r (0 : Fin 1)) : EReal) = scaleOf (rowOf hr (xr r.val)) := by
  refine (congrFun (V_109 m c) (ix2 r (0 : Fin 1))).trans ?_
  refine (broadcastInDim_apply _ _ _ _ (ix1 r) (fun ax => ?_)).trans (rowScale_real (Y := fun r => rowOf hr (xr r)) (fun r j => y_at m c H r j) r)
  match ax with
  | ⟨0, _⟩ => rfl

/-- The scales as an array: the reference's third result. -/
theorem scales_eq : V m c main_v109 = fun i => scaleOf (rowOf hr (xr (i 0).val)) := by
  funext i
  have hi : i = ix2 (i 0) (0 : Fin 1) := by
    funext a; apply Fin.ext
    match a with
    | ⟨0, _⟩ => rfl
    | ⟨1, _⟩ => exact Nat.lt_one_iff.mp (i 1).isLt
  refine (congrArg (V m c main_v109) hi).trans (scales_at m c H (i 0))

/-- The rotated rows handed to the region. -/
theorem v94_at (r : Fin 2048) (j : Fin 9216) : (V m c main_v94 (ix2 r j) : EReal) = ((rowOf hr (xr r.val) j.val : ℝ) : EReal) :=
  (congrFun (V_94 m c) (ix2 r j)).trans (y_at m c H r j)

/-- The region's codes, entry by entry. -/
theorem codes_at (r : Fin 2048) (j : Fin 9216) :
    (k0_pay1 (F := Ideal) (V m c main_v109) (V m c main_v94) (ix2 r j) : EReal) = codeOf (rowOf hr (xr r.val)) j.val :=
  codes_of (V m c main_v109) (V m c main_v94) (rowOf hr (xr r.val)) r j (scales_at m c H r) (v94_at m c H r j)

/-- The region's outputs, entry by entry. -/
theorem out_at (r : Fin 2048) (n : Fin 2304) :
    (k0_pay2 (F := Ideal) (V m c main_v109) (V m c main_v94) (V m c main_arg2) (V m c main_v109) (V m c main_v110) (ix2 r n) : EReal)
      = outOf (rowOf hr (xr r.val)) (fun j => Cert.KernelIdeal.Hand.rd2 (a := 9216) (b := 2304) (V m c main_arg2) j n.val)
          (m (c, Proc.devRef .tc main_arg3) (ix1 n)) :=
  out_of (V m c main_v109) (V m c main_v94) (V m c main_arg2) (V m c main_v110) (rowOf hr (xr r.val)) r n _ (scales_at m c H r) (v94_at m c H r) (v110_at m c n)

end

section

variable (m : (ℓ : Loc nD τ sig) → Buf (Elt Ideal) ℓ) (c : Dev nD) (W : (b : Ref sig .tc) → Buf (Elt Ideal) ((c : Thread nD τ).loc b))

/-- The region has one point, and every window's block is the whole array: its index is zero. -/
theorem index_0 : ∀ a, win0_0.index t0_0 a = 0 := by decide +kernel
theorem index_1 : ∀ a, win0_1.index t0_0 a = 0 := by decide +kernel
theorem index_2 : ∀ a, win0_2.index t0_0 a = 0 := by decide +kernel
theorem index_3 : ∀ a, win0_3.index t0_0 a = 0 := by decide +kernel

/-- The block of the first window is the rotated rows; the next three theorems are the other inputs' likewise. -/
theorem read_0 : ((cfg0.win 0).blk t0_0).view.read (Elt Ideal) (W (Pipeline.arrRef spec0 0)) = W main_v94 := by
  funext y; blk_simp
  refine congrArg (W main_v94) ?_
  blk_ext [index_0]

theorem read_1 : ((cfg0.win 1).blk t0_0).view.read (Elt Ideal) (W (Pipeline.arrRef spec0 1)) = W main_v109 := by
  funext y; blk_simp
  refine congrArg (W main_v109) ?_
  blk_ext [index_1]

theorem read_2 : ((cfg0.win 2).blk t0_0).view.read (Elt Ideal) (W (Pipeline.arrRef spec0 2)) = W main_arg2 := by
  funext y; blk_simp
  refine congrArg (W main_arg2) ?_
  blk_ext [index_2]

theorem read_3 : ((cfg0.win 3).blk t0_0).view.read (Elt Ideal) (W (Pipeline.arrRef spec0 3)) = W main_v110 := by
  funext y; blk_simp
  refine congrArg (W main_v110) ?_
  blk_ext [index_3]

/-- What the body writes as codes. -/
theorem out5_eq (x0 : Vec Ideal S2048x9216 .f32) (x1 : Vec Ideal S2048x1 .f32) (x2 : Vec Ideal S9216x2304 .fp8e4m3) (x3 : Vec Ideal S1x2304 .f32)
    (j : S2048x9216.Idx) : out0_5 x0 x1 x2 x3 j = k0_pay1 x1 x0 j := by
  frame_out

/-- What the body writes as outputs. -/
theorem out4_eq (x0 : Vec Ideal S2048x9216 .f32) (x1 : Vec Ideal S2048x1 .f32) (x2 : Vec Ideal S9216x2304 .fp8e4m3) (x3 : Vec Ideal S1x2304 .f32)
    (j : S2048x2304.Idx) : out0_4 x0 x1 x2 x3 j = k0_pay2 x1 x0 x2 x1 x3 j := by
  frame_out

/-- The body's first input block; the next three theorems are the others. -/
theorem iblk_0 : iblk m c 0 t0_0 = V m c main_v94 := by unfold iblk; exact read_0 c (V m c)
theorem iblk_1 : iblk m c 1 t0_0 = V m c main_v109 := by unfold iblk; exact read_1 c (V m c)
theorem iblk_2 : iblk m c 2 t0_0 = V m c main_arg2 := by unfold iblk; exact read_2 c (V m c)
theorem iblk_3 : iblk m c 3 t0_0 = V m c main_v110 := by unfold iblk; exact read_3 c (V m c)

/-- The codes' array when the region is done. -/
theorem arr5 : (dats m 0 c).arrAt 5 cfg0.N = k0_pay1 (F := Ideal) (V m c main_v109) (V m c main_v94) := by
  refine (dats m 0 c).arrAt_eq_of_after_last 5 t0_0 (by decide +kernel) _ fun j => ?_
  blk_simp
  rw [after0_5, iblk_0, iblk_1, iblk_2, iblk_3]
  exact out5_eq _ _ _ _ j

/-- The outputs' array when the region is done. -/
theorem arr4 : (dats m 0 c).arrAt 4 cfg0.N = k0_pay2 (F := Ideal) (V m c main_v109) (V m c main_v94) (V m c main_arg2) (V m c main_v109) (V m c main_v110) := by
  refine (dats m 0 c).arrAt_eq_of_after_last 4 t0_0 (by decide +kernel) _ fun j => ?_
  blk_simp
  rw [after0_4, iblk_0, iblk_1, iblk_2, iblk_3]
  exact out4_eq _ _ _ _ j

end

end Cert.ReferenceIdeal.Hand

end
-- ==== Proof.PreRead.lean ====
/-
  What the precondition says: every activation is a number of magnitude at most the largest bf16 number, and every entry of the
  36 × 36 factor one of magnitude at most one.
-/
module

public import proofs.«01_k».proof.Pre__finite
public import proofs.«01_k».proof.Proof.RefVal
public import Idealize.ShloMosaic.Lib.ReduceAll
public import Idealize.ShloMosaic.Lib.Affine

@[expose] public section

set_option maxRecDepth 65536

noncomputable section

namespace Cert.Pre__finite

open Cert.Hand
open Cert.ReferenceIdeal.Hand (Finite)
open Idealize.ShloMosaic hiding ix0 ix1 ix2 ix3 ix4
open Idealize.ShloMosaic.TcCoe Idealize.ShloMosaic.ValueIdx

/-- The side conditions of the precondition's operations. -/
theorem facts : Facts where
  bitsLt_bf16_f32 := by decide
  bcast_S_S2x1024x9216 := by decide
  reducesTo_S2x1024x9216_S_d0_1_2 := by decide
  h_S_ := by decide
  bcast_S_S36x36 := by decide
  reducesTo_S36x36_S_d0_1 := by decide

instance : Subsingleton S_.Idx := ⟨fun a b => funext fun k => k.elim0⟩

/-- An entry whose comparison with a bound gives one obeys it. -/
theorem le_of_cmp {s : Shape} (y : FVec Ideal s .f32) (h : S_.BroadcastsInDim s ![]) (b : BitVec 32) (i : s.Idx)
    (e : cmpf .ole (Host.absf y) (broadcastInDim s ![] h (constant S_ .f32 b)) i = 1#1) : max (y i : EReal) (-y i) ≤ Ideal.ofBits .f32 b := by
  have e' : BitVec.ofBool (decide (max (y i : EReal) (-y i) ≤ Ideal.ofBits .f32 b)) = 1#1 := e
  by_contra hc
  rw [decide_eq_false hc] at e'
  exact absurd e' (by decide)

/-- The precondition's bit says the two bounds, entry by entry. -/
theorem bounds [Facts] (x : FVec Ideal S2x1024x9216 .bf16) (had : FVec Ideal S36x36 .f32) (w : FVec Ideal S9216x2304 .fp8e4m3) (ws : FVec Ideal S2304 .f32)
    (h : fn (F := Ideal) x had w ws = fun _ => 1#1) :
    (∀ i, max (x i : EReal) (-x i) ≤ Ideal.ofBits .f32 0x7F7F0000#32) ∧ ∀ i, max (had i : EReal) (-had i) ≤ Ideal.ofBits .f32 0x3F800000#32 := by
  have h0 := congrFun h ix0
  dsimp only [fn] at h0
  obtain ⟨ha, hb⟩ := IntOp.andi_eq_one.mp h0
  exact ⟨fun i => le_of_cmp (extf .f32 x Facts.bitsLt_bf16_f32) _ _ i (Host.reduce_andi_all _ _ _ _ _ ha i),
    fun i => le_of_cmp had _ _ i (Host.reduce_andi_all _ _ _ _ _ hb i)⟩

/-- A value between two numbers is a number. -/
theorem real_of_le (z : EReal) (B : ℝ) (h : max z (-z) ≤ (B : EReal)) : z = ((z.toReal : ℝ) : EReal) ∧ |z.toReal| ≤ B := by
  induction z using EReal.rec with
  | bot => exact absurd (lt_of_le_of_lt h (EReal.coe_lt_top B)) (by simp)
  | top => exact absurd (lt_of_le_of_lt h (EReal.coe_lt_top B)) (by simp)
  | coe a =>
    refine ⟨by rw [EReal.toReal_coe], ?_⟩
    rw [EReal.toReal_coe]
    rw [Cert.ReferenceIdeal.Hand.abs_real] at h
    exact EReal.coe_le_coe_iff.mp h

/-- The word of the largest bf16 number. -/
theorem ofBits_xMax : Ideal.ofBits .f32 0x7F7F0000#32 = ((xMax : ℝ) : EReal) := by
  unfold xMax
  simp [Ideal.ofBits, Ideal.ieee, -EReal.coe_mul, -EReal.coe_sub]
  norm_num

/-- The activations as numbers, by row and column. -/
def xOf (x : FVec Ideal S2x1024x9216 .bf16) (r j : ℕ) : ℝ :=
  EReal.toReal (x (ix3 (Fin.ofNat 2 (r / 1024)) (Fin.ofNat 1024 r) (Fin.ofNat 9216 j)))

/-- The 36 × 36 factor as numbers. -/
def hadOf (had : FVec Ideal S36x36 .f32) (a k : ℕ) : ℝ := EReal.toReal (had (ix2 (Fin.ofNat 36 a) (Fin.ofNat 36 k)))

/-- A column read modulo the row's length is the column. -/
theorem xOf_per (x : FVec Ideal S2x1024x9216 .bf16) (r j : ℕ) : xOf x r (j % 9216) = xOf x r j := by
  unfold xOf
  rw [show Fin.ofNat 9216 (j % 9216) = Fin.ofNat 9216 j from Fin.ext (Nat.mod_mod _ _)]

/-- The precondition makes the arguments finite. -/
theorem finite [Facts] (x : FVec Ideal S2x1024x9216 .bf16) (had : FVec Ideal S36x36 .f32) (w : FVec Ideal S9216x2304 .fp8e4m3) (ws : FVec Ideal S2304 .f32)
    (h : fn (F := Ideal) x had w ws = fun _ => 1#1) : Finite had x (hadOf had) (xOf x) := by
  obtain ⟨h1, h2⟩ := bounds x had w ws h
  have h1' := fun i => real_of_le (x i) xMax (by rw [← ofBits_xMax]; exact h1 i)
  have h2' := fun i => real_of_le (had i) 1 (by rw [EReal.coe_one, ← Ideal.ofBits_one_f32]; exact h2 i)
  refine ⟨fun a k => ?_, fun b s j => ?_, fun r j => (h1' _).2, fun a k => (h2' _).2⟩
  · unfold hadOf
    rw [Fin.ofNat_val_eq_self, Fin.ofNat_val_eq_self]
    exact (h2' _).1
  · have hs := s.isLt
    have hb := b.isLt
    have e1 : Fin.ofNat 2 ((1024 * b.val + s.val) / 1024) = b := Fin.ext (by show (1024 * b.val + s.val) / 1024 % 2 = b.val; omega)
    have e2 : Fin.ofNat 1024 (1024 * b.val + s.val) = s := Fin.ext (by show (1024 * b.val + s.val) % 1024 = s.val; omega)
    unfold xOf
    rw [e1, e2, Fin.ofNat_val_eq_self]
    exact (h1' _).1

end Cert.Pre__finite

end
-- ==== Proof.Algebraic.lean ====
/-
  The value claim: over the extended reals, from arguments obeying the precondition, the kernel and the reference end with the same
  three results, each of them the row specification's (Spec.lean).
-/
module

public import proofs.«01_k».proof.Defs
public import proofs.«01_k».proof.Proof.KRes
public import proofs.«01_k».proof.Proof.RefOut
public import proofs.«01_k».proof.Proof.PreRead

@[expose] public section

set_option maxRecDepth 65536

noncomputable section

namespace Cert.ReferenceIdeal.Hand

open Cert.ReferenceIdeal Cert.ReferenceIdeal.Gen Cert.Hand
open Cert.KernelIdeal.Hand (resOut resCode resScale wsAt_val)
open Idealize.ShloMosaic hiding ix1 ix2 ix3 ix4
open Idealize.ShloMosaic.TcCoe Idealize.ShloMosaic.ValueIdx
open Idealize.SL.Sem

section

variable (m : (ℓ : Loc nD τ sig) → Buf (Elt Ideal) ℓ) (ρ : Dev nD → PrngReg) {hr xr : ℕ → ℕ → ℝ} (c : Dev nD)
  (H : Finite (m (c, Proc.devRef .tc main_arg1)) (m (c, Proc.devRef .tc main_arg0)) hr xr)
include H

/-- The reference's codes, by the shared entry function. -/
theorem res_code : (dats m 0 c).arrAt 5 cfg0.N = fun i : S2048x9216.Idx => resCode hr xr (i 0).val (i 1).val := by
  refine (arr5 m c).trans (funext fun i => ?_)
  exact (congrArg (k0_pay1 (F := Ideal) (V m c main_v109) (V m c main_v94)) (ix2_eta i)).trans (codes_at m c H (i 0) (i 1))

/-- The reference's outputs, by the shared entry function. -/
theorem res_out : (dats m 0 c).arrAt 4 cfg0.N
    = fun i : S2048x2304.Idx => resOut hr xr (m (c, Proc.devRef .tc main_arg2)) (m (c, Proc.devRef .tc main_arg3)) (i 0).val (i 1).val := by
  refine (arr4 m c).trans (funext fun i => ?_)
  refine (congrArg (k0_pay2 (F := Ideal) (V m c main_v109) (V m c main_v94) (V m c main_arg2) (V m c main_v109) (V m c main_v110)) (ix2_eta i)).trans ?_
  refine (out_at m c H (i 0) (i 1)).trans ?_
  unfold resOut
  exact congrArg₂ (fun (w : Vec Ideal S9216x2304 .fp8e4m3) (z : EReal) =>
    outOf (rowOf hr (xr (i 0).val)) (fun j => Cert.KernelIdeal.Hand.rd2 (a := 9216) (b := 2304) w j (i 1).val) z) (V_main_arg2 m c) (wsAt_val _ (i 1))

/-- The reference's scales, by the shared entry function. -/
theorem res_scale : V m c main_v109 = fun i : S2048x1.Idx => resScale hr xr (i 0).val := scales_eq m c H

end

/-- The reference's run, its results and arguments named. -/
theorem run_res (m : (ℓ : Loc nD τ sig) → Buf (Elt Ideal) ℓ) (ρ : Dev nD → PrngReg) (hr xr : Dev nD → ℕ → ℕ → ℝ)
    (H : ∀ c : Dev nD, Finite (m (c, Proc.devRef .tc main_arg1)) (m (c, Proc.devRef .tc main_arg0)) (hr c) (xr c)) :
    θ_run defs (onTc (τ := τ) (main (F := Ideal))) ⟨m, fun _ => 0, ρ⟩ fun r => ∀ c : Dev nD,
      r.2.mem ((c.tc : Thread nD τ).loc main_v111_0) = (fun i : S2048x2304.Idx => resOut (hr c) (xr c) (m (c, Proc.devRef .tc main_arg2)) (m (c, Proc.devRef .tc main_arg3)) (i 0).val (i 1).val)
      ∧ r.2.mem ((c.tc : Thread nD τ).loc main_v111_1) = (fun i : S2048x9216.Idx => resCode (hr c) (xr c) (i 0).val (i 1).val)
      ∧ r.2.mem ((c.tc : Thread nD τ).loc main_v109) = (fun i : S2048x1.Idx => resScale (hr c) (xr c) (i 0).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(Value.post4 m r h c).trans (res_out m c (H c)), (Value.post5 m r h c).trans (res_code m c (H c)),
      ((h c).1 1).trans (((dats m 0 c).arrAt_in 1 rfl _).trans ((A_eq m c 1).trans (res_scale m c (H c)))),
      Value.kept_main_arg0 m r h c, Value.kept_main_arg1 m r h c, Value.kept_main_arg2 m r h c, Value.kept_main_arg3 m r h c⟩)
    (run_main m ρ)

end Cert.ReferenceIdeal.Hand

namespace Cert.KernelIdeal.Hand

open Cert.KernelIdeal Cert.KernelIdeal.Gen Cert.Hand
open Cert.ReferenceIdeal.Hand (Finite)
open Idealize.ShloMosaic hiding ix1 ix2 ix3 ix4
open Idealize.ShloMosaic.TcCoe Idealize.ShloMosaic.ValueIdx
open Idealize.SL.Sem

/-- The kernel's run, its results and arguments named. -/
theorem run_res (m : (ℓ : Loc nD τ sig) → Buf (Elt Ideal) ℓ) (ρ : Dev nD → PrngReg) (hr xr : Dev nD → ℕ → ℕ → ℝ)
    (H : ∀ c : Dev nD, Finite (m (c, Proc.devRef .tc main_arg1)) (m (c, Proc.devRef .tc main_arg0)) (hr c) (xr c))
    (hper : ∀ c r j, xr c r (j % 9216) = xr c r j) :
    θ_run defs (onTc (τ := τ) (main (F := Ideal))) ⟨m, fun _ => 0, ρ⟩ fun r => ∀ c : Dev nD,
      r.2.mem ((c.tc : Thread nD τ).loc main_v17_0) = (fun i : S2048x2304.Idx => resOut (hr c) (xr c) (m (c, Proc.devRef .tc main_arg2)) (m (c, Proc.devRef .tc main_arg3)) (i 0).val (i 1).val)
      ∧ r.2.mem ((c.tc : Thread nD τ).loc main_v17_1) = (fun i : S2048x9216.Idx => resCode (hr c) (xr c) (i 0).val (i 1).val)
      ∧ r.2.mem ((c.tc : Thread nD τ).loc main_v17_2) = (fun i : S2048x1.Idx => resScale (hr c) (xr c) (i 0).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1.1 c).1 5).trans ((arr5 m c (H c) (hper c)).trans
        (congrArg (fun (w : Vec Ideal S9216x2304 .fp8e4m3) (i : S2048x2304.Idx) => resOut (hr c) (xr c) w (m (c, Proc.devRef .tc main_arg3)) (i 0).val (i 1).val) (V_main_arg2 m c))),
      ((h.1.1 c).1 6).trans (arr6 m c (H c) (hper c)), ((h.1.1 c).1 7).trans (arr7 m c (H c) (hper c)), h.2.1 c⟩)
    (θ_run_and (run_main_quiescent m ρ) (frame m ρ))

end Cert.KernelIdeal.Hand

namespace Cert.Hand

open Idealize.ShloMosaic Idealize.ShloMosaic.TcCoe
open Idealize.SL.Sem

/-- The value claim. -/
theorem algebraic : Cert.algebraic_KernelIdeal_ReferenceIdeal_pre__finite (hKernelIdeal := Cert.KernelIdeal.Gen.facts)
    (hReferenceIdeal := Cert.ReferenceIdeal.Gen.facts) (hPre__finite := Cert.Pre__finite.facts) := by
  intro m g m' g' hpre heq
  have H := fun c => @Cert.Pre__finite.finite Cert.Pre__finite.facts _ _ _ _ (hpre c)
  refine ⟨_, _, _, Cert.KernelIdeal.Hand.run_res m g _ _ H (fun c r j => Cert.Pre__finite.xOf_per _ r j), ?_⟩
  have H' := fun c : Dev Cert.ReferenceIdeal.nD =>
    (congrArg₂ (fun (had : FVec Ideal Cert.ReferenceIdeal.S36x36 .f32) (x : FVec Ideal Cert.ReferenceIdeal.S2x1024x9216 .bf16) =>
      Cert.ReferenceIdeal.Hand.Finite had x (Cert.Pre__finite.hadOf (m (c, Proc.devRef .tc Cert.KernelIdeal.main_arg1)))
        (Cert.Pre__finite.xOf (m (c, Proc.devRef .tc Cert.KernelIdeal.main_arg0)))) (heq c).2.1 (heq c).1).mpr (H c)
  refine (θ_run _ _ _).mono (fun r h c => ⟨(h c).1.trans ?_, (h c).2.1, (h c).2.2.1, (h c).2.2.2⟩) (Cert.ReferenceIdeal.Hand.run_res m' g' _ _ H')
  exact congrArg₂ (fun (w : Vec Ideal Cert.ReferenceIdeal.S9216x2304 .fp8e4m3) (ws : FVec Ideal Cert.ReferenceIdeal.S2304 .f32) (i : Cert.ReferenceIdeal.S2048x2304.Idx) =>
    Cert.KernelIdeal.Hand.resOut (Cert.Pre__finite.hadOf (m (c, Proc.devRef .tc Cert.KernelIdeal.main_arg1)))
      (Cert.Pre__finite.xOf (m (c, Proc.devRef .tc Cert.KernelIdeal.main_arg0))) w ws (i 0).val (i 1).val) (heq c).2.2.1 (heq c).2.2.2

end Cert.Hand

end
-- ==== Proof.lean ====
/-
  The proof of `Cert.Claim`: the frames of the kernel (at its bit-exact printing and at its ideal printing) and of the reference,
  what the ideal printing's rewrites state, and the equality of the three results over the extended reals.
-/
module

public import proofs.«01_k».proof.Defs
public import proofs.«01_k».proof.Proof.KFrame
public import proofs.«01_k».proof.Proof.IFrame
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Algebraic

@[expose] public section

namespace Cert.Proof

theorem claim : Cert.Claim :=
  ⟨Cert.Kernel.Gen.facts, Cert.KernelIdeal.Gen.facts, Cert.ReferenceIdeal.Gen.facts, Cert.Pre__finite.facts,
    fun m ρ _ => Cert.Kernel.Hand.frame m ρ, fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ,
    ⟨Idealize.ShloMosaic.IdealRules.bf16_pack.statement _, Idealize.ShloMosaic.IdealRules.bf16_pack.statement _⟩,
    Cert.Hand.algebraic⟩

end Cert.Proof

end
